-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S2x65536 : Shape := ⟨2, ![2, 65536]⟩
abbrev S4096x4096 : Shape := ⟨2, ![4096, 4096]⟩
abbrev S8x128x8 : Shape := ⟨3, ![8, 128, 8]⟩
abbrev S8x16x1 : Shape := ⟨3, ![8, 16, 1]⟩
abbrev S64x8 : Shape := ⟨2, ![64, 8]⟩
abbrev S8 : Shape := ⟨1, ![8]⟩
abbrev S8x64 : Shape := ⟨2, ![8, 64]⟩
abbrev S64 : Shape := ⟨1, ![64]⟩
abbrev S128x8x8 : Shape := ⟨3, ![128, 8, 8]⟩
abbrev S128x64 : Shape := ⟨2, ![128, 64]⟩
abbrev S8x8x1 : Shape := ⟨3, ![8, 8, 1]⟩
abbrev S8x8 : Shape := ⟨2, ![8, 8]⟩
abbrev S_ : Shape := ⟨0, ![]⟩
abbrev S8x1x8 : Shape := ⟨3, ![8, 1, 8]⟩
abbrev S8x8x8 : Shape := ⟨3, ![8, 8, 8]⟩
abbrev S4096x64 : Shape := ⟨2, ![4096, 64]⟩
abbrev S4096x8 : Shape := ⟨2, ![4096, 8]⟩
abbrev S8x4096 : Shape := ⟨2, ![8, 4096]⟩
abbrev S256x4096 : Shape := ⟨2, ![256, 4096]⟩
abbrev S256x8 : Shape := ⟨2, ![256, 8]⟩
abbrev S256x64 : Shape := ⟨2, ![256, 64]⟩
abbrev S256x1 : Shape := ⟨2, ![256, 1]⟩
abbrev S1x4096 : Shape := ⟨2, ![1, 4096]⟩
abbrev S256 : Shape := ⟨1, ![256]⟩
abbrev S1x65536 : Shape := ⟨2, ![1, 65536]⟩
abbrev S65536 : Shape := ⟨1, ![65536]⟩
abbrev S4096 : Shape := ⟨1, ![4096]⟩
abbrev S69632 : Shape := ⟨1, ![69632]⟩
abbrev S69632x1 : Shape := ⟨2, ![69632, 1]⟩
abbrev S69632x8 : Shape := ⟨2, ![69632, 8]⟩
abbrev S1x8 : Shape := ⟨2, ![1, 8]⟩
abbrev S69632x64 : Shape := ⟨2, ![69632, 64]⟩
abbrev S1x64 : Shape := ⟨2, ![1, 64]⟩

abbrev nBuf : Space → Nat
  | .hbm => 164
  | .vmem => 17
  | .smem => 0
  | _ => 0

abbrev hbmTy0_0 (i : Nat) : BufTy := match i % 128 with
  | 0 => ⟨S4096x128, .f32⟩
  | 1 => ⟨S2x65536, .i32⟩
  | 2 => ⟨S4096x4096, .f32⟩
  | 3 => ⟨S4096x4096, .f32⟩
  | 4 => ⟨S8x128x8, .f32⟩
  | 5 => ⟨S8x16x1, .f32⟩
  | 6 => ⟨S64x8, .f32⟩
  | 7 => ⟨S8, .f32⟩
  | 8 => ⟨S8x64, .f32⟩
  | 9 => ⟨S64, .f32⟩
  | 10 => ⟨S128x8x8, .f32⟩
  | 11 => ⟨S128x64, .f32⟩
  | 12 => ⟨S8x8x1, .f32⟩
  | 13 => ⟨S8x8, .f32⟩
  | 14 => ⟨S8x8x1, .f32⟩
  | 15 => ⟨S8x8, .f32⟩
  | 16 => ⟨S8x8, .i32⟩
  | 17 => ⟨S8x8, .i32⟩
  | 18 => ⟨S_, .i32⟩
  | 19 => ⟨S8x8, .i32⟩
  | 20 => ⟨S8x8, .i32⟩
  | 21 => ⟨S8x8, .i1⟩
  | 22 => ⟨S8x8, .f32⟩
  | 23 => ⟨S8x8x1, .f32⟩
  | 24 => ⟨S8x1x8, .f32⟩
  | 25 => ⟨S8x8x8, .f32⟩
  | 26 => ⟨S8x8x8, .f32⟩
  | 27 => ⟨S8x8x8, .f32⟩
  | 28 => ⟨S64x8, .f32⟩
  | 29 => ⟨S8x8x1, .f32⟩
  | 30 => ⟨S8x1x8, .f32⟩
  | 31 => ⟨S8x8x8, .f32⟩
  | 32 => ⟨S8x8x8, .f32⟩
  | 33 => ⟨S8x8x8, .f32⟩
  | 34 => ⟨S64x8, .f32⟩
  | 35 => ⟨S4096x64, .f32⟩
  | 36 => ⟨S4096x8, .f32⟩
  | 37 => ⟨S8x4096, .f32⟩
  | 38 => ⟨S4096x64, .f32⟩
  | 39 => ⟨S1x65536, .i32⟩
  | 40 => ⟨S65536, .i32⟩
  | 41 => ⟨S1x65536, .i32⟩
  | 42 => ⟨S65536, .i32⟩
  | 43 => ⟨S4096, .i32⟩
  | 44 => ⟨S69632, .i32⟩
  | 45 => ⟨S69632, .i32⟩
  | 46 => ⟨S_, .f32⟩
  | 47 => ⟨S4096, .f32⟩
  | 48 => ⟨S_, .i32⟩
  | 49 => ⟨S69632, .i32⟩
  | 50 => ⟨S69632, .i1⟩
  | 51 => ⟨S_, .i32⟩
  | 52 => ⟨S69632, .i32⟩
  | 53 => ⟨S69632, .i32⟩
  | 54 => ⟨S69632, .i32⟩
  | 55 => ⟨S69632x1, .i32⟩
  | 56 => ⟨S_, .f32⟩
  | 57 => ⟨S69632, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .i32⟩
  | 64 => ⟨S69632, .i32⟩
  | 65 => ⟨S69632, .i1⟩
  | 66 => ⟨S_, .i32⟩
  | 67 => ⟨S69632, .i32⟩
  | 68 => ⟨S69632, .i32⟩
  | 69 => ⟨S69632, .i32⟩
  | 70 => ⟨S69632x1, .i32⟩
  | 71 => ⟨S69632, .f32⟩
  | 72 => ⟨S_, .i32⟩
  | 73 => ⟨S69632, .i32⟩
  | 74 => ⟨S69632, .i1⟩
  | 75 => ⟨S_, .i32⟩
  | 76 => ⟨S69632, .i32⟩
  | 77 => ⟨S69632, .i32⟩
  | 78 => ⟨S69632, .i32⟩
  | 79 => ⟨S69632x1, .i32⟩
  | 80 => ⟨S69632, .f32⟩
  | 81 => ⟨S69632, .f32⟩
  | 82 => ⟨S4096x8, .f32⟩
  | 83 => ⟨S_, .i32⟩
  | 84 => ⟨S69632, .i32⟩
  | 85 => ⟨S69632, .i1⟩
  | 86 => ⟨S_, .i32⟩
  | 87 => ⟨S69632, .i32⟩
  | 88 => ⟨S69632, .i32⟩
  | 89 => ⟨S69632, .i32⟩
  | 90 => ⟨S69632x1, .i32⟩
  | 91 => ⟨S69632x8, .f32⟩
  | 92 => ⟨S69632x1, .f32⟩
  | 93 => ⟨S69632x8, .f32⟩
  | 94 => ⟨S69632x8, .f32⟩
  | 95 => ⟨S_, .f32⟩
  | 96 => ⟨S4096x8, .f32⟩
  | 97 => ⟨S69632x1, .i32⟩
  | 98 => ⟨S4096x8, .f32⟩
  | 99 => ⟨S1x8, .f32⟩
  | 100 => ⟨S4096x8, .f32⟩
  | 101 => ⟨S4096x8, .f32⟩
  | 102 => ⟨S_, .f32⟩
  | 103 => ⟨S4096x8, .f32⟩
  | 104 => ⟨S4096x8, .f32⟩
  | 105 => ⟨S4096, .i32⟩
  | 106 => ⟨S69632, .i32⟩
  | 107 => ⟨S69632, .i32⟩
  | 108 => ⟨S_, .f32⟩
  | 109 => ⟨S4096, .f32⟩
  | 110 => ⟨S_, .i32⟩
  | 111 => ⟨S69632, .i32⟩
  | 112 => ⟨S69632, .i1⟩
  | 113 => ⟨S_, .i32⟩
  | 114 => ⟨S69632, .i32⟩
  | 115 => ⟨S69632, .i32⟩
  | 116 => ⟨S69632, .i32⟩
  | 117 => ⟨S69632x1, .i32⟩
  | 118 => ⟨S_, .f32⟩
  | 119 => ⟨S69632, .f32⟩
  | 120 => ⟨S4096, .f32⟩
  | 121 => ⟨S_, .f32⟩
  | 122 => ⟨S4096, .f32⟩
  | 123 => ⟨S4096, .f32⟩
  | 124 => ⟨S4096, .f32⟩
  | 125 => ⟨S_, .i32⟩
  | 126 => ⟨S69632, .i32⟩
  | 127 => ⟨S69632, .i1⟩
  | _ => ⟨S4096x128, .f32⟩

abbrev hbmTy0_1 (i : Nat) : BufTy := match i % 128 with
  | 0 => ⟨S_, .i32⟩
  | 1 => ⟨S69632, .i32⟩
  | 2 => ⟨S69632, .i32⟩
  | 3 => ⟨S69632, .i32⟩
  | 4 => ⟨S69632x1, .i32⟩
  | 5 => ⟨S69632, .f32⟩
  | 6 => ⟨S_, .i32⟩
  | 7 => ⟨S69632, .i32⟩
  | 8 => ⟨S69632, .i1⟩
  | 9 => ⟨S_, .i32⟩
  | 10 => ⟨S69632, .i32⟩
  | 11 => ⟨S69632, .i32⟩
  | 12 => ⟨S69632, .i32⟩
  | 13 => ⟨S69632x1, .i32⟩
  | 14 => ⟨S69632, .f32⟩
  | 15 => ⟨S69632, .f32⟩
  | 16 => ⟨S4096x64, .f32⟩
  | 17 => ⟨S_, .i32⟩
  | 18 => ⟨S69632, .i32⟩
  | 19 => ⟨S69632, .i1⟩
  | 20 => ⟨S_, .i32⟩
  | 21 => ⟨S69632, .i32⟩
  | 22 => ⟨S69632, .i32⟩
  | 23 => ⟨S69632, .i32⟩
  | 24 => ⟨S69632x1, .i32⟩
  | 25 => ⟨S69632x64, .f32⟩
  | 26 => ⟨S69632x1, .f32⟩
  | 27 => ⟨S69632x64, .f32⟩
  | 28 => ⟨S69632x64, .f32⟩
  | 29 => ⟨S_, .f32⟩
  | 30 => ⟨S4096x64, .f32⟩
  | 31 => ⟨S69632x1, .i32⟩
  | 32 => ⟨S4096x64, .f32⟩
  | 33 => ⟨S1x64, .f32⟩
  | 34 => ⟨S4096x64, .f32⟩
  | 35 => ⟨S4096x64, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S128x64, .f32⟩
  | .local _ .vmem, ⟨2, _⟩ => ⟨S64x8, .f32⟩
  | .local _ .vmem, ⟨3, _⟩ => ⟨S64x8, .f32⟩
  | .local _ .vmem, ⟨4, _⟩ => ⟨S4096x64, .f32⟩
  | .local _ .vmem, ⟨5, _⟩ => ⟨S4096x8, .f32⟩
  | .local _ .vmem, ⟨6, _⟩ => ⟨S8x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x8, .f32⟩
  | .local _ .vmem, ⟨12, _⟩ => ⟨S256x8, .f32⟩
  | .local _ .vmem, ⟨13, _⟩ => ⟨S8x4096, .f32⟩
  | .local _ .vmem, ⟨14, _⟩ => ⟨S4096x64, .f32⟩
  | .local _ .vmem, ⟨15, _⟩ => ⟨S256x64, .f32⟩
  | .local _ .vmem, ⟨16, _⟩ => ⟨S256x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24_0 : Ref sig .tc := ⟨.hbm, 35, rfl⟩
abbrev main_call0_v24_1 : Ref sig .tc := ⟨.hbm, 36, rfl⟩
abbrev main_call0_v24_2 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst : Ref sig .tc := ⟨.hbm, 46, rfl⟩
abbrev main_v8 : Ref sig .tc := ⟨.hbm, 47, rfl⟩
abbrev main_c : Ref sig .tc := ⟨.hbm, 48, rfl⟩
abbrev main_v9 : Ref sig .tc := ⟨.hbm, 49, rfl⟩
abbrev main_v10 : Ref sig .tc := ⟨.hbm, 50, rfl⟩
abbrev main_c_0 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_3 : Ref sig .tc := ⟨.hbm, 63, rfl⟩
abbrev main_v20 : Ref sig .tc := ⟨.hbm, 64, rfl⟩
abbrev main_v21 : Ref sig .tc := ⟨.hbm, 65, rfl⟩
abbrev main_c_4 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_5 : Ref sig .tc := ⟨.hbm, 72, rfl⟩
abbrev main_v27 : Ref sig .tc := ⟨.hbm, 73, rfl⟩
abbrev main_v28 : Ref sig .tc := ⟨.hbm, 74, rfl⟩
abbrev main_c_6 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_7 : Ref sig .tc := ⟨.hbm, 83, rfl⟩
abbrev main_v36 : Ref sig .tc := ⟨.hbm, 84, rfl⟩
abbrev main_v37 : Ref sig .tc := ⟨.hbm, 85, rfl⟩
abbrev main_c_8 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_9 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call1_cst : Ref sig .tc := ⟨.hbm, 102, rfl⟩
abbrev main_call1_v0 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_10 : Ref sig .tc := ⟨.hbm, 108, rfl⟩
abbrev main_v56 : Ref sig .tc := ⟨.hbm, 109, rfl⟩
abbrev main_c_11 : Ref sig .tc := ⟨.hbm, 110, rfl⟩
abbrev main_v57 : Ref sig .tc := ⟨.hbm, 111, rfl⟩
abbrev main_v58 : Ref sig .tc := ⟨.hbm, 112, rfl⟩
abbrev main_c_12 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_v63 : Ref sig .tc := ⟨.hbm, 119, rfl⟩
abbrev main_v64 : Ref sig .tc := ⟨.hbm, 120, rfl⟩
abbrev main_cst_14 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_c_15 : Ref sig .tc := ⟨.hbm, 125, rfl⟩
abbrev main_v68 : Ref sig .tc := ⟨.hbm, 126, rfl⟩
abbrev main_v69 : Ref sig .tc := ⟨.hbm, 127, rfl⟩
abbrev main_c_16 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_17 : Ref sig .tc := ⟨.hbm, 134, rfl⟩
abbrev main_v75 : Ref sig .tc := ⟨.hbm, 135, rfl⟩
abbrev main_v76 : Ref sig .tc := ⟨.hbm, 136, rfl⟩
abbrev main_c_18 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_c_19 : Ref sig .tc := ⟨.hbm, 145, rfl⟩
abbrev main_v84 : Ref sig .tc := ⟨.hbm, 146, rfl⟩
abbrev main_v85 : Ref sig .tc := ⟨.hbm, 147, rfl⟩
abbrev main_c_20 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_21 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4096x128 : Shape := ⟨2, ![4096, 128]⟩
abbrev S2x65536 : Shape := ⟨2, ![2, 65536]⟩
abbrev S4096x4096 : Shape := ⟨2, ![4096, 4096]⟩
abbrev S8x128x8 : Shape := ⟨3, ![8, 128, 8]⟩
abbrev S8x16x1 : Shape := ⟨3, ![8, 16, 1]⟩
abbrev S64x8 : Shape := ⟨2, ![64, 8]⟩
abbrev S8 : Shape := ⟨1, ![8]⟩
abbrev S8x64 : Shape := ⟨2, ![8, 64]⟩
abbrev S64 : Shape := ⟨1, ![64]⟩
abbrev S1x128x8 : Shape := ⟨3, ![1, 128, 8]⟩
abbrev S128x8 : Shape := ⟨2, ![128, 8]⟩
abbrev S1x16x1 : Shape := ⟨3, ![1, 16, 1]⟩
abbrev S16x1 : Shape := ⟨2, ![16, 1]⟩
abbrev S4096x8 : Shape := ⟨2, ![4096, 8]⟩
abbrev S8x1 : Shape := ⟨2, ![8, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x64 : Shape := ⟨2, ![4096, 64]⟩
abbrev S1x65536 : Shape := ⟨2, ![1, 65536]⟩
abbrev S65536 : Shape := ⟨1, ![65536]⟩
abbrev S69632 : Shape := ⟨1, ![69632]⟩
abbrev S69632x1 : Shape := ⟨2, ![69632, 1]⟩
abbrev S69632x8 : Shape := ⟨2, ![69632, 8]⟩
abbrev S1x8 : Shape := ⟨2, ![1, 8]⟩
abbrev S69632x64 : Shape := ⟨2, ![69632, 64]⟩
abbrev S1x64 : Shape := ⟨2, ![1, 64]⟩

abbrev nBuf : Space → Nat
  | .hbm => 600
  | .vmem => 0
  | .smem => 0
  | _ => 0

abbrev hbmTy0_0 (i : Nat) : BufTy := match i % 128 with
  | 0 => ⟨S4096x128, .f32⟩
  | 1 => ⟨S2x65536, .i32⟩
  | 2 => ⟨S4096x4096, .f32⟩
  | 3 => ⟨S4096x4096, .f32⟩
  | 4 => ⟨S8x128x8, .f32⟩
  | 5 => ⟨S8x16x1, .f32⟩
  | 6 => ⟨S64x8, .f32⟩
  | 7 => ⟨S8, .f32⟩
  | 8 => ⟨S8x64, .f32⟩
  | 9 => ⟨S64, .f32⟩
  | 10 => ⟨S1x128x8, .f32⟩
  | 11 => ⟨S128x8, .f32⟩
  | 12 => ⟨S1x16x1, .f32⟩
  | 13 => ⟨S16x1, .f32⟩
  | 14 => ⟨S4096x8, .f32⟩
  | 15 => ⟨S8x1, .f32⟩
  | 16 => ⟨S4096x1, .f32⟩
  | 17 => ⟨S8x1, .f32⟩
  | 18 => ⟨S4096x1, .f32⟩
  | 19 => ⟨S1x4096, .f32⟩
  | 20 => ⟨S4096x4096, .f32⟩
  | 21 => ⟨S4096x4096, .f32⟩
  | 22 => ⟨S4096x4096, .f32⟩
  | 23 => ⟨S_, .f32⟩
  | 24 => ⟨S_, .f32⟩
  | 25 => ⟨S4096x4096, .f32⟩
  | 26 => ⟨S4096x4096, .i1⟩
  | 27 => ⟨S_, .f32⟩
  | 28 => ⟨S4096x4096, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S_, .f32⟩
  | 36 => ⟨S4096x4096, .f32⟩
  | 37 => ⟨S4096x4096, .f32⟩
  | 38 => ⟨S_, .f32⟩
  | 39 => ⟨S4096, .f32⟩
  | 40 => ⟨S_, .f32⟩
  | 41 => ⟨S4096, .f32⟩
  | 42 => ⟨S4096, .f32⟩
  | 43 => ⟨S4096x1, .f32⟩
  | 44 => ⟨S4096x4096, .f32⟩
  | 45 => ⟨S4096x4096, .f32⟩
  | 46 => ⟨S4096x4096, .f32⟩
  | 47 => ⟨S_, .f32⟩
  | 48 => ⟨S4096, .f32⟩
  | 49 => ⟨S4096x1, .f32⟩
  | 50 => ⟨S4096x4096, .f32⟩
  | 51 => ⟨S4096x4096, .f32⟩
  | 52 => ⟨S4096x8, .f32⟩
  | 53 => ⟨S_, .f32⟩
  | 54 => ⟨S4096x8, .f32⟩
  | 55 => ⟨S4096x8, .i1⟩
  | 56 => ⟨S_, .f32⟩
  | 57 => ⟨S4096x8, .f32⟩
  | 58 => ⟨S4096x8, .i1⟩
  | 59 => ⟨S_, .f32⟩
  | 60 => ⟨S_, .f32⟩
  | 61 => ⟨S4096x8, .f32⟩
  | 62 => ⟨S4096x8, .f32⟩
  | 63 => ⟨S4096x8, .f32⟩
  | 64 => ⟨S_, .f32⟩
  | 65 => ⟨S4096x8, .f32⟩
  | 66 => ⟨S4096x8, .f32⟩
  | 67 => ⟨S4096x8, .f32⟩
  | 68 => ⟨S1x128x8, .f32⟩
  | 69 => ⟨S128x8, .f32⟩
  | 70 => ⟨S1x16x1, .f32⟩
  | 71 => ⟨S16x1, .f32⟩
  | 72 => ⟨S4096x8, .f32⟩
  | 73 => ⟨S8x1, .f32⟩
  | 74 => ⟨S4096x1, .f32⟩
  | 75 => ⟨S8x1, .f32⟩
  | 76 => ⟨S4096x1, .f32⟩
  | 77 => ⟨S1x4096, .f32⟩
  | 78 => ⟨S4096x4096, .f32⟩
  | 79 => ⟨S4096x4096, .f32⟩
  | 80 => ⟨S4096x4096, .f32⟩
  | 81 => ⟨S_, .f32⟩
  | 82 => ⟨S_, .f32⟩
  | 83 => ⟨S4096x4096, .f32⟩
  | 84 => ⟨S4096x4096, .i1⟩
  | 85 => ⟨S_, .f32⟩
  | 86 => ⟨S4096x4096, .f32⟩
  | 87 => ⟨S4096x4096, .f32⟩
  | 88 => ⟨S4096x4096, .f32⟩
  | 89 => ⟨S4096x4096, .f32⟩
  | 90 => ⟨S_, .f32⟩
  | 91 => ⟨S4096x4096, .f32⟩
  | 92 => ⟨S4096x4096, .i1⟩
  | 93 => ⟨S_, .f32⟩
  | 94 => ⟨S4096x4096, .f32⟩
  | 95 => ⟨S4096x4096, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1, .f32⟩
  | 102 => ⟨S4096x4096, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S4096x4096, .f32⟩
  | 109 => ⟨S4096x4096, .f32⟩
  | 110 => ⟨S4096x8, .f32⟩
  | 111 => ⟨S_, .f32⟩
  | 112 => ⟨S4096x8, .f32⟩
  | 113 => ⟨S4096x8, .i1⟩
  | 114 => ⟨S_, .f32⟩
  | 115 => ⟨S4096x8, .f32⟩
  | 116 => ⟨S4096x8, .i1⟩
  | 117 => ⟨S_, .f32⟩
  | 118 => ⟨S_, .f32⟩
  | 119 => ⟨S4096x8, .f32⟩
  | 120 => ⟨S4096x8, .f32⟩
  | 121 => ⟨S4096x8, .f32⟩
  | 122 => ⟨S_, .f32⟩
  | 123 => ⟨S4096x8, .f32⟩
  | 124 => ⟨S4096x8, .f32⟩
  | 125 => ⟨S4096x8, .f32⟩
  | 126 => ⟨S1x128x8, .f32⟩
  | 127 => ⟨S128x8, .f32⟩
  | _ => ⟨S4096x128, .f32⟩

abbrev hbmTy0_1 (i : Nat) : BufTy := match i % 128 with
  | 0 => ⟨S1x16x1, .f32⟩
  | 1 => ⟨S16x1, .f32⟩
  | 2 => ⟨S4096x8, .f32⟩
  | 3 => ⟨S8x1, .f32⟩
  | 4 => ⟨S4096x1, .f32⟩
  | 5 => ⟨S8x1, .f32⟩
  | 6 => ⟨S4096x1, .f32⟩
  | 7 => ⟨S1x4096, .f32⟩
  | 8 => ⟨S4096x4096, .f32⟩
  | 9 => ⟨S4096x4096, .f32⟩
  | 10 => ⟨S4096x4096, .f32⟩
  | 11 => ⟨S_, .f32⟩
  | 12 => ⟨S_, .f32⟩
  | 13 => ⟨S4096x4096, .f32⟩
  | 14 => ⟨S4096x4096, .i1⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S_, .f32⟩
  | 21 => ⟨S4096x4096, .f32⟩
  | 22 => ⟨S4096x4096, .i1⟩
  | 23 => ⟨S_, .f32⟩
  | 24 => ⟨S4096x4096, .f32⟩
  | 25 => ⟨S4096x4096, .f32⟩
  | 26 => ⟨S_, .f32⟩
  | 27 => ⟨S4096, .f32⟩
  | 28 => ⟨S_, .f32⟩
  | 29 => ⟨S4096, .f32⟩
  | 30 => ⟨S4096, .f32⟩
  | 31 => ⟨S4096x1, .f32⟩
  | 32 => ⟨S4096x4096, .f32⟩
  | 33 => ⟨S4096x4096, .f32⟩
  | 34 => ⟨S4096x4096, .f32⟩
  | 35 => ⟨S_, .f32⟩
  | 36 => ⟨S4096, .f32⟩
  | 37 => ⟨S4096x1, .f32⟩
  | 38 => ⟨S4096x4096, .f32⟩
  | 39 => ⟨S4096x4096, .f32⟩
  | 40 => ⟨S4096x8, .f32⟩
  | 41 => ⟨S_, .f32⟩
  | 42 => ⟨S4096x8, .f32⟩
  | 43 => ⟨S4096x8, .i1⟩
  | 44 => ⟨S_, .f32⟩
  | 45 => ⟨S4096x8, .f32⟩
  | 46 => ⟨S4096x8, .i1⟩
  | 47 => ⟨S_, .f32⟩
  | 48 => ⟨S_, .f32⟩
  | 49 => ⟨S4096x8, .f32⟩
  | 50 => ⟨S4096x8, .f32⟩
  | 51 => ⟨S4096x8, .f32⟩
  | 52 => ⟨S_, .f32⟩
  | 53 => ⟨S4096x8, .f32⟩
  | 54 => ⟨S4096x8, .f32⟩
  | 55 => ⟨S4096x8, .f32⟩
  | 56 => ⟨S1x128x8, .f32⟩
  | 57 => ⟨S128x8, .f32⟩
  | 58 => ⟨S1x16x1, .f32⟩
  | 59 => ⟨S16x1, .f32⟩
  | 60 => ⟨S4096x8, .f32⟩
  | 61 => ⟨S8x1, .f32⟩
  | 62 => ⟨S4096x1, .f32⟩
  | 63 => ⟨S8x1, .f32⟩
  | 64 => ⟨S4096x1, .f32⟩
  | 65 => ⟨S1x4096, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S4096x4096, .f32⟩
  | 72 => ⟨S4096x4096, .i1⟩
  | 73 => ⟨S_, .f32⟩
  | 74 => ⟨S4096x4096, .f32⟩
  | 75 => ⟨S4096x4096, .f32⟩
  | 76 => ⟨S4096x4096, .f32⟩
  | 77 => ⟨S4096x4096, .f32⟩
  | 78 => ⟨S_, .f32⟩
  | 79 => ⟨S4096x4096, .f32⟩
  | 80 => ⟨S4096x4096, .i1⟩
  | 81 => ⟨S_, .f32⟩
  | 82 => ⟨S4096x4096, .f32⟩
  | 83 => ⟨S4096x4096, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1, .f32⟩
  | 90 => ⟨S4096x4096, .f32⟩
  | 91 => ⟨S4096x4096, .f32⟩
  | 92 => ⟨S4096x4096, .f32⟩
  | 93 => ⟨S_, .f32⟩
  | 94 => ⟨S4096, .f32⟩
  | 95 => ⟨S4096x1, .f32⟩
  | 96 => ⟨S4096x4096, .f32⟩
  | 97 => ⟨S4096x4096, .f32⟩
  | 98 => ⟨S4096x8, .f32⟩
  | 99 => ⟨S_, .f32⟩
  | 100 => ⟨S4096x8, .f32⟩
  | 101 => ⟨S4096x8, .i1⟩
  | 102 => ⟨S_, .f32⟩
  | 103 => ⟨S4096x8, .f32⟩
  | 104 => ⟨S4096x8, .i1⟩
  | 105 => ⟨S_, .f32⟩
  | 106 => ⟨S_, .f32⟩
  | 107 => ⟨S4096x8, .f32⟩
  | 108 => ⟨S4096x8, .f32⟩
  | 109 => ⟨S4096x8, .f32⟩
  | 110 => ⟨S_, .f32⟩
  | 111 => ⟨S4096x8, .f32⟩
  | 112 => ⟨S4096x8, .f32⟩
  | 113 => ⟨S4096x8, .f32⟩
  | 114 => ⟨S1x128x8, .f32⟩
  | 115 => ⟨S128x8, .f32⟩
  | 116 => ⟨S1x16x1, .f32⟩
  | 117 => ⟨S16x1, .f32⟩
  | 118 => ⟨S4096x8, .f32⟩
  | 119 => ⟨S8x1, .f32⟩
  | 120 => ⟨S4096x1, .f32⟩
  | 121 => ⟨S8x1, .f32⟩
  | 122 => ⟨S4096x1, .f32⟩
  | 123 => ⟨S1x4096, .f32⟩
  | 124 => ⟨S4096x4096, .f32⟩
  | 125 => ⟨S4096x4096, .f32⟩
  | 126 => ⟨S4096x4096, .f32⟩
  | 127 => ⟨S_, .f32⟩
  | _ => ⟨S4096x128, .f32⟩

abbrev hbmTy0_2 (i : Nat) : BufTy := match i % 128 with
  | 0 => ⟨S_, .f32⟩
  | 1 => ⟨S4096x4096, .f32⟩
  | 2 => ⟨S4096x4096, .i1⟩
  | 3 => ⟨S_, .f32⟩
  | 4 => ⟨S4096x4096, .f32⟩
  | 5 => ⟨S4096x4096, .f32⟩
  | 6 => ⟨S4096x4096, .f32⟩
  | 7 => ⟨S4096x4096, .f32⟩
  | 8 => ⟨S_, .f32⟩
  | 9 => ⟨S4096x4096, .f32⟩
  | 10 => ⟨S4096x4096, .i1⟩
  | 11 => ⟨S_, .f32⟩
  | 12 => ⟨S4096x4096, .f32⟩
  | 13 => ⟨S4096x4096, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x4096, .f32⟩
  | 21 => ⟨S4096x4096, .f32⟩
  | 22 => ⟨S4096x4096, .f32⟩
  | 23 => ⟨S_, .f32⟩
  | 24 => ⟨S4096, .f32⟩
  | 25 => ⟨S4096x1, .f32⟩
  | 26 => ⟨S4096x4096, .f32⟩
  | 27 => ⟨S4096x4096, .f32⟩
  | 28 => ⟨S4096x8, .f32⟩
  | 29 => ⟨S_, .f32⟩
  | 30 => ⟨S4096x8, .f32⟩
  | 31 => ⟨S4096x8, .i1⟩
  | 32 => ⟨S_, .f32⟩
  | 33 => ⟨S4096x8, .f32⟩
  | 34 => ⟨S4096x8, .i1⟩
  | 35 => ⟨S_, .f32⟩
  | 36 => ⟨S_, .f32⟩
  | 37 => ⟨S4096x8, .f32⟩
  | 38 => ⟨S4096x8, .f32⟩
  | 39 => ⟨S4096x8, .f32⟩
  | 40 => ⟨S_, .f32⟩
  | 41 => ⟨S4096x8, .f32⟩
  | 42 => ⟨S4096x8, .f32⟩
  | 43 => ⟨S4096x8, .f32⟩
  | 44 => ⟨S1x128x8, .f32⟩
  | 45 => ⟨S128x8, .f32⟩
  | 46 => ⟨S1x16x1, .f32⟩
  | 47 => ⟨S16x1, .f32⟩
  | 48 => ⟨S4096x8, .f32⟩
  | 49 => ⟨S8x1, .f32⟩
  | 50 => ⟨S4096x1, .f32⟩
  | 51 => ⟨S8x1, .f32⟩
  | 52 => ⟨S4096x1, .f32⟩
  | 53 => ⟨S1x4096, .f32⟩
  | 54 => ⟨S4096x4096, .f32⟩
  | 55 => ⟨S4096x4096, .f32⟩
  | 56 => ⟨S4096x4096, .f32⟩
  | 57 => ⟨S_, .f32⟩
  | 58 => ⟨S_, .f32⟩
  | 59 => ⟨S4096x4096, .f32⟩
  | 60 => ⟨S4096x4096, .i1⟩
  | 61 => ⟨S_, .f32⟩
  | 62 => ⟨S4096x4096, .f32⟩
  | 63 => ⟨S4096x4096, .f32⟩
  | 64 => ⟨S4096x4096, .f32⟩
  | 65 => ⟨S4096x4096, .f32⟩
  | 66 => ⟨S_, .f32⟩
  | 67 => ⟨S4096x4096, .f32⟩
  | 68 => ⟨S4096x4096, .i1⟩
  | 69 => ⟨S_, .f32⟩
  | 70 => ⟨S4096x4096, .f32⟩
  | 71 => ⟨S4096x4096, .f32⟩
  | 72 => ⟨S_, .f32⟩
  | 73 => ⟨S4096, .f32⟩
  | 74 => ⟨S_, .f32⟩
  | 75 => ⟨S4096, .f32⟩
  | 76 => ⟨S4096, .f32⟩
  | 77 => ⟨S4096x1, .f32⟩
  | 78 => ⟨S4096x4096, .f32⟩
  | 79 => ⟨S4096x4096, .f32⟩
  | 80 => ⟨S4096x4096, .f32⟩
  | 81 => ⟨S_, .f32⟩
  | 82 => ⟨S4096, .f32⟩
  | 83 => ⟨S4096x1, .f32⟩
  | 84 => ⟨S4096x4096, .f32⟩
  | 85 => ⟨S4096x4096, .f32⟩
  | 86 => ⟨S4096x8, .f32⟩
  | 87 => ⟨S_, .f32⟩
  | 88 => ⟨S4096x8, .f32⟩
  | 89 => ⟨S4096x8, .i1⟩
  | 90 => ⟨S_, .f32⟩
  | 91 => ⟨S4096x8, .f32⟩
  | 92 => ⟨S4096x8, .i1⟩
  | 93 => ⟨S_, .f32⟩
  | 94 => ⟨S_, .f32⟩
  | 95 => ⟨S4096x8, .f32⟩
  | 96 => ⟨S4096x8, .f32⟩
  | 97 => ⟨S4096x8, .f32⟩
  | 98 => ⟨S_, .f32⟩
  | 99 => ⟨S4096x8, .f32⟩
  | 100 => ⟨S4096x8, .f32⟩
  | 101 => ⟨S4096x8, .f32⟩
  | 102 => ⟨S1x128x8, .f32⟩
  | 103 => ⟨S128x8, .f32⟩
  | 104 => ⟨S1x16x1, .f32⟩
  | 105 => ⟨S16x1, .f32⟩
  | 106 => ⟨S4096x8, .f32⟩
  | 107 => ⟨S8x1, .f32⟩
  | 108 => ⟨S4096x1, .f32⟩
  | 109 => ⟨S8x1, .f32⟩
  | 110 => ⟨S4096x1, .f32⟩
  | 111 => ⟨S1x4096, .f32⟩
  | 112 => ⟨S4096x4096, .f32⟩
  | 113 => ⟨S4096x4096, .f32⟩
  | 114 => ⟨S4096x4096, .f32⟩
  | 115 => ⟨S_, .f32⟩
  | 116 => ⟨S_, .f32⟩
  | 117 => ⟨S4096x4096, .f32⟩
  | 118 => ⟨S4096x4096, .i1⟩
  | 119 => ⟨S_, .f32⟩
  | 120 => ⟨S4096x4096, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .i1⟩
  | 127 => ⟨S_, .f32⟩
  | _ => ⟨S4096x128, .f32⟩

abbrev hbmTy0_3 (i : Nat) : BufTy := match i % 128 with
  | 0 => ⟨S4096x4096, .f32⟩
  | 1 => ⟨S4096x4096, .f32⟩
  | 2 => ⟨S_, .f32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x4096, .f32⟩
  | 9 => ⟨S4096x4096, .f32⟩
  | 10 => ⟨S4096x4096, .f32⟩
  | 11 => ⟨S_, .f32⟩
  | 12 => ⟨S4096, .f32⟩
  | 13 => ⟨S4096x1, .f32⟩
  | 14 => ⟨S4096x4096, .f32⟩
  | 15 => ⟨S4096x4096, .f32⟩
  | 16 => ⟨S4096x8, .f32⟩
  | 17 => ⟨S_, .f32⟩
  | 18 => ⟨S4096x8, .f32⟩
  | 19 => ⟨S4096x8, .i1⟩
  | 20 => ⟨S_, .f32⟩
  | 21 => ⟨S4096x8, .f32⟩
  | 22 => ⟨S4096x8, .i1⟩
  | 23 => ⟨S_, .f32⟩
  | 24 => ⟨S_, .f32⟩
  | 25 => ⟨S4096x8, .f32⟩
  | 26 => ⟨S4096x8, .f32⟩
  | 27 => ⟨S4096x8, .f32⟩
  | 28 => ⟨S_, .f32⟩
  | 29 => ⟨S4096x8, .f32⟩
  | 30 => ⟨S4096x8, .f32⟩
  | 31 => ⟨S4096x8, .f32⟩
  | 32 => ⟨S1x128x8, .f32⟩
  | 33 => ⟨S128x8, .f32⟩
  | 34 => ⟨S1x16x1, .f32⟩
  | 35 => ⟨S16x1, .f32⟩
  | 36 => ⟨S4096x8, .f32⟩
  | 37 => ⟨S8x1, .f32⟩
  | 38 => ⟨S4096x1, .f32⟩
  | 39 => ⟨S8x1, .f32⟩
  | 40 => ⟨S4096x1, .f32⟩
  | 41 => ⟨S1x4096, .f32⟩
  | 42 => ⟨S4096x4096, .f32⟩
  | 43 => ⟨S4096x4096, .f32⟩
  | 44 => ⟨S4096x4096, .f32⟩
  | 45 => ⟨S_, .f32⟩
  | 46 => ⟨S_, .f32⟩
  | 47 => ⟨S4096x4096, .f32⟩
  | 48 => ⟨S4096x4096, .i1⟩
  | 49 => ⟨S_, .f32⟩
  | 50 => ⟨S4096x4096, .f32⟩
  | 51 => ⟨S4096x4096, .f32⟩
  | 52 => ⟨S4096x4096, .f32⟩
  | 53 => ⟨S4096x4096, .f32⟩
  | 54 => ⟨S_, .f32⟩
  | 55 => ⟨S4096x4096, .f32⟩
  | 56 => ⟨S4096x4096, .i1⟩
  | 57 => ⟨S_, .f32⟩
  | 58 => ⟨S4096x4096, .f32⟩
  | 59 => ⟨S4096x4096, .f32⟩
  | 60 => ⟨S_, .f32⟩
  | 61 => ⟨S4096, .f32⟩
  | 62 => ⟨S_, .f32⟩
  | 63 => ⟨S4096, .f32⟩
  | 64 => ⟨S4096, .f32⟩
  | 65 => ⟨S4096x1, .f32⟩
  | 66 => ⟨S4096x4096, .f32⟩
  | 67 => ⟨S4096x4096, .f32⟩
  | 68 => ⟨S4096x4096, .f32⟩
  | 69 => ⟨S_, .f32⟩
  | 70 => ⟨S4096, .f32⟩
  | 71 => ⟨S4096x1, .f32⟩
  | 72 => ⟨S4096x4096, .f32⟩
  | 73 => ⟨S4096x4096, .f32⟩
  | 74 => ⟨S4096x8, .f32⟩
  | 75 => ⟨S_, .f32⟩
  | 76 => ⟨S4096x8, .f32⟩
  | 77 => ⟨S4096x8, .i1⟩
  | 78 => ⟨S_, .f32⟩
  | 79 => ⟨S4096x8, .f32⟩
  | 80 => ⟨S4096x8, .i1⟩
  | 81 => ⟨S_, .f32⟩
  | 82 => ⟨S_, .f32⟩
  | 83 => ⟨S4096x8, .f32⟩
  | 84 => ⟨S4096x8, .f32⟩
  | 85 => ⟨S4096x8, .f32⟩
  | 86 => ⟨S_, .f32⟩
  | 87 => ⟨S4096x8, .f32⟩
  | 88 => ⟨S4096x8, .f32⟩
  | 89 => ⟨S4096x8, .f32⟩
  | 90 => ⟨S4096x64, .f32⟩
  | 91 => ⟨S1x65536, .i32⟩
  | 92 => ⟨S65536, .i32⟩
  | 93 => ⟨S1x65536, .i32⟩
  | 94 => ⟨S65536, .i32⟩
  | 95 => ⟨S4096, .i32⟩
  | 96 => ⟨S69632, .i32⟩
  | 97 => ⟨S69632, .i32⟩
  | 98 => ⟨S_, .f32⟩
  | 99 => ⟨S4096, .f32⟩
  | 100 => ⟨S_, .i32⟩
  | 101 => ⟨S69632, .i32⟩
  | 102 => ⟨S69632, .i1⟩
  | 103 => ⟨S_, .i32⟩
  | 104 => ⟨S69632, .i32⟩
  | 105 => ⟨S69632, .i32⟩
  | 106 => ⟨S69632, .i32⟩
  | 107 => ⟨S69632x1, .i32⟩
  | 108 => ⟨S_, .f32⟩
  | 109 => ⟨S69632, .f32⟩
  | 110 => ⟨S4096, .f32⟩
  | 111 => ⟨S_, .f32⟩
  | 112 => ⟨S4096, .f32⟩
  | 113 => ⟨S4096, .f32⟩
  | 114 => ⟨S4096, .f32⟩
  | 115 => ⟨S_, .i32⟩
  | 116 => ⟨S69632, .i32⟩
  | 117 => ⟨S69632, .i1⟩
  | 118 => ⟨S_, .i32⟩
  | 119 => ⟨S69632, .i32⟩
  | 120 => ⟨S69632, .i32⟩
  | 121 => ⟨S69632, .i32⟩
  | 122 => ⟨S69632x1, .i32⟩
  | 123 => ⟨S69632, .f32⟩
  | 124 => ⟨S_, .i32⟩
  | 125 => ⟨S69632, .i32⟩
  | 126 => ⟨S69632, .i1⟩
  | 127 => ⟨S_, .i32⟩
  | _ => ⟨S4096x128, .f32⟩

abbrev hbmTy0_4 (i : Nat) : BufTy := match i % 128 with
  | 0 => ⟨S69632, .i32⟩
  | 1 => ⟨S69632, .i32⟩
  | 2 => ⟨S69632, .i32⟩
  | 3 => ⟨S69632x1, .i32⟩
  | 4 => ⟨S69632, .f32⟩
  | 5 => ⟨S69632, .f32⟩
  | 6 => ⟨S4096x8, .f32⟩
  | 7 => ⟨S_, .i32⟩
  | 8 => ⟨S69632, .i32⟩
  | 9 => ⟨S69632, .i1⟩
  | 10 => ⟨S_, .i32⟩
  | 11 => ⟨S69632, .i32⟩
  | 12 => ⟨S69632, .i32⟩
  | 13 => ⟨S69632, .i32⟩
  | 14 => ⟨S69632x1, .i32⟩
  | 15 => ⟨S69632x8, .f32⟩
  | 16 => ⟨S69632x1, .f32⟩
  | 17 => ⟨S69632x8, .f32⟩
  | 18 => ⟨S69632x8, .f32⟩
  | 19 => ⟨S_, .f32⟩
  | 20 => ⟨S4096x8, .f32⟩
  | 21 => ⟨S69632x1, .i32⟩
  | 22 => ⟨S4096x8, .f32⟩
  | 23 => ⟨S1x8, .f32⟩
  | 24 => ⟨S4096x8, .f32⟩
  | 25 => ⟨S4096x8, .f32⟩
  | 26 => ⟨S_, .f32⟩
  | 27 => ⟨S4096x8, .f32⟩
  | 28 => ⟨S4096x8, .f32⟩
  | 29 => ⟨S4096, .i32⟩
  | 30 => ⟨S69632, .i32⟩
  | 31 => ⟨S69632, .i32⟩
  | 32 => ⟨S_, .f32⟩
  | 33 => ⟨S4096, .f32⟩
  | 34 => ⟨S_, .i32⟩
  | 35 => ⟨S69632, .i32⟩
  | 36 => ⟨S69632, .i1⟩
  | 37 => ⟨S_, .i32⟩
  | 38 => ⟨S69632, .i32⟩
  | 39 => ⟨S69632, .i32⟩
  | 40 => ⟨S69632, .i32⟩
  | 41 => ⟨S69632x1, .i32⟩
  | 42 => ⟨S_, .f32⟩
  | 43 => ⟨S69632, .f32⟩
  | 44 => ⟨S4096, .f32⟩
  | 45 => ⟨S_, .f32⟩
  | 46 => ⟨S4096, .f32⟩
  | 47 => ⟨S4096, .f32⟩
  | 48 => ⟨S4096, .f32⟩
  | 49 => ⟨S_, .i32⟩
  | 50 => ⟨S69632, .i32⟩
  | 51 => ⟨S69632, .i1⟩
  | 52 => ⟨S_, .i32⟩
  | 53 => ⟨S69632, .i32⟩
  | 54 => ⟨S69632, .i32⟩
  | 55 => ⟨S69632, .i32⟩
  | 56 => ⟨S69632x1, .i32⟩
  | 57 => ⟨S69632, .f32⟩
  | 58 => ⟨S_, .i32⟩
  | 59 => ⟨S69632, .i32⟩
  | 60 => ⟨S69632, .i1⟩
  | 61 => ⟨S_, .i32⟩
  | 62 => ⟨S69632, .i32⟩
  | 63 => ⟨S69632, .i32⟩
  | 64 => ⟨S69632, .i32⟩
  | 65 => ⟨S69632x1, .i32⟩
  | 66 => ⟨S69632, .f32⟩
  | 67 => ⟨S69632, .f32⟩
  | 68 => ⟨S4096x64, .f32⟩
  | 69 => ⟨S_, .i32⟩
  | 70 => ⟨S69632, .i32⟩
  | 71 => ⟨S69632, .i1⟩
  | 72 => ⟨S_, .i32⟩
  | 73 => ⟨S69632, .i32⟩
  | 74 => ⟨S69632, .i32⟩
  | 75 => ⟨S69632, .i32⟩
  | 76 => ⟨S69632x1, .i32⟩
  | 77 => ⟨S69632x64, .f32⟩
  | 78 => ⟨S69632x1, .f32⟩
  | 79 => ⟨S69632x64, .f32⟩
  | 80 => ⟨S69632x64, .f32⟩
  | 81 => ⟨S_, .f32⟩
  | 82 => ⟨S4096x64, .f32⟩
  | 83 => ⟨S69632x1, .i32⟩
  | 84 => ⟨S4096x64, .f32⟩
  | 85 => ⟨S1x64, .f32⟩
  | 86 => ⟨S4096x64, .f32⟩
  | 87 => ⟨S4096x64, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_call1_v0 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_cst_1 : Ref sig .tc := ⟨.hbm, 59, rfl⟩
abbrev main_call2_call0_v0 : Ref sig .tc := ⟨.hbm, 60, rfl⟩
abbrev main_call2_call0_v1 : Ref sig .tc := ⟨.hbm, 61, rfl⟩
abbrev main_call2_v4 : Ref sig .tc := ⟨.hbm, 62, rfl⟩
abbrev main_call2_v5 : Ref sig .tc := ⟨.hbm, 63, rfl⟩
abbrev main_call2_cst_2 : Ref sig .tc := ⟨.hbm, 64, rfl⟩
abbrev main_call2_v6 : Ref sig .tc := ⟨.hbm, 65, rfl⟩
abbrev main_call2_v7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v44 : Ref sig .tc := ⟨.hbm, 88, rfl⟩
abbrev main_v45 : Ref sig .tc := ⟨.hbm, 89, rfl⟩
abbrev main_cst_6 : Ref sig .tc := ⟨.hbm, 90, rfl⟩
abbrev main_v46 : Ref sig .tc := ⟨.hbm, 91, rfl⟩
abbrev main_v47 : Ref sig .tc := ⟨.hbm, 92, rfl⟩
abbrev main_cst_7 : Ref sig .tc := ⟨.hbm, 93, rfl⟩
abbrev main_call4_v0 : Ref sig .tc := ⟨.hbm, 94, rfl⟩
abbrev main_v48 : Ref sig .tc := ⟨.hbm, 95, rfl⟩
abbrev main_cst_8 : Ref sig .tc := ⟨.hbm, 96, rfl⟩
abbrev main_v49 : Ref sig .tc := ⟨.hbm, 97, rfl⟩
abbrev main_cst_9 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_10 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call5_cst : Ref sig .tc := ⟨.hbm, 111, rfl⟩
abbrev main_call5_v0 : Ref sig .tc := ⟨.hbm, 112, rfl⟩
abbrev main_call5_v1 : Ref sig .tc := ⟨.hbm, 113, rfl⟩
abbrev main_call5_cst_0 : Ref sig .tc := ⟨.hbm, 114, rfl⟩
abbrev main_call5_v2 : Ref sig .tc := ⟨.hbm, 115, rfl⟩
abbrev main_call5_v3 : Ref sig .tc := ⟨.hbm, 116, rfl⟩
abbrev main_call5_cst_1 : Ref sig .tc := ⟨.hbm, 117, rfl⟩
abbrev main_call5_call0_v0 : Ref sig .tc := ⟨.hbm, 118, rfl⟩
abbrev main_call5_call0_v1 : Ref sig .tc := ⟨.hbm, 119, rfl⟩
abbrev main_call5_v4 : Ref sig .tc := ⟨.hbm, 120, rfl⟩
abbrev main_call5_v5 : Ref sig .tc := ⟨.hbm, 121, rfl⟩
abbrev main_call5_cst_2 : Ref sig .tc := ⟨.hbm, 122, rfl⟩
abbrev main_call5_v6 : Ref sig .tc := ⟨.hbm, 123, rfl⟩
abbrev main_call5_v7 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_11 : Ref sig .tc := ⟨.hbm, 139, rfl⟩
abbrev main_call6_cst : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v75 : Ref sig .tc := ⟨.hbm, 146, rfl⟩
abbrev main_v76 : Ref sig .tc := ⟨.hbm, 147, rfl⟩
abbrev main_cst_12 : Ref sig .tc := ⟨.hbm, 148, rfl⟩
abbrev main_v77 : Ref sig .tc := ⟨.hbm, 149, rfl⟩
abbrev main_v78 : Ref sig .tc := ⟨.hbm, 150, rfl⟩
abbrev main_cst_13 : Ref sig .tc := ⟨.hbm, 151, rfl⟩
abbrev main_call7_v0 : Ref sig .tc := ⟨.hbm, 152, rfl⟩
abbrev main_v79 : Ref sig .tc := ⟨.hbm, 153, rfl⟩
abbrev main_cst_14 : Ref sig .tc := ⟨.hbm, 154, rfl⟩
abbrev main_v80 : Ref sig .tc := ⟨.hbm, 155, rfl⟩
abbrev main_cst_15 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_cst_16 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_call8_cst : Ref sig .tc := ⟨.hbm, 169, rfl⟩
abbrev main_call8_v0 : Ref sig .tc := ⟨.hbm, 170, rfl⟩
abbrev main_call8_v1 : Ref sig .tc := ⟨.hbm, 171, rfl⟩
abbrev main_call8_cst_0 : Ref sig .tc := ⟨.hbm, 172, rfl⟩
abbrev main_call8_v2 : Ref sig .tc := ⟨.hbm, 173, rfl⟩
abbrev main_call8_v3 : Ref sig .tc := ⟨.hbm, 174, rfl⟩
abbrev main_call8_cst_1 : Ref sig .tc := ⟨.hbm, 175, rfl⟩
abbrev main_call8_call0_v0 : Ref sig .tc := ⟨.hbm, 176, rfl⟩
abbrev main_call8_call0_v1 : Ref sig .tc := ⟨.hbm, 177, rfl⟩
abbrev main_call8_v4 : Ref sig .tc := ⟨.hbm, 178, rfl⟩
abbrev main_call8_v5 : Ref sig .tc := ⟨.hbm, 179, rfl⟩
abbrev main_call8_cst_2 : Ref sig .tc := ⟨.hbm, 180, rfl⟩
abbrev main_call8_v6 : Ref sig .tc := ⟨.hbm, 181, rfl⟩
abbrev main_call8_v7 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_17 : Ref sig .tc := ⟨.hbm, 197, rfl⟩
abbrev main_call9_cst : Ref sig .tc := ⟨.hbm, 198, rfl⟩
abbrev main_call9_v0 : Ref sig .tc := ⟨.hbm, 199, rfl⟩
abbrev main_call9_v1 : Ref sig .tc := ⟨.hbm, 200, rfl⟩
abbrev main_call9_v2 : Ref sig .tc := ⟨.hbm, 201, rfl⟩
abbrev main_call9_v3 : Ref sig .tc := ⟨.hbm, 202, rfl⟩
abbrev main_call9_v4 : Ref sig .tc := ⟨.hbm, 203, rfl⟩
abbrev main_v106 : Ref sig .tc := ⟨.hbm, 204, rfl⟩
abbrev main_v107 : Ref sig .tc := ⟨.hbm, 205, rfl⟩
abbrev main_cst_18 : Ref sig .tc := ⟨.hbm, 206, rfl⟩
abbrev main_v108 : Ref sig .tc := ⟨.hbm, 207, rfl⟩
abbrev main_v109 : Ref sig .tc := ⟨.hbm, 208, rfl⟩
abbrev main_cst_19 : Ref sig .tc := ⟨.hbm, 209, rfl⟩
abbrev main_call10_v0 : Ref sig .tc := ⟨.hbm, 210, rfl⟩
abbrev main_v110 : Ref sig .tc := ⟨.hbm, 211, rfl⟩
abbrev main_cst_20 : Ref sig .tc := ⟨.hbm, 212, rfl⟩
abbrev main_v111 : Ref sig .tc := ⟨.hbm, 213, rfl⟩
abbrev main_cst_21 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_cst_22 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_call11_cst : Ref sig .tc := ⟨.hbm, 227, rfl⟩
abbrev main_call11_v0 : Ref sig .tc := ⟨.hbm, 228, rfl⟩
abbrev main_call11_v1 : Ref sig .tc := ⟨.hbm, 229, rfl⟩
abbrev main_call11_cst_0 : Ref sig .tc := ⟨.hbm, 230, rfl⟩
abbrev main_call11_v2 : Ref sig .tc := ⟨.hbm, 231, rfl⟩
abbrev main_call11_v3 : Ref sig .tc := ⟨.hbm, 232, rfl⟩
abbrev main_call11_cst_1 : Ref sig .tc := ⟨.hbm, 233, rfl⟩
abbrev main_call11_call0_v0 : Ref sig .tc := ⟨.hbm, 234, rfl⟩
abbrev main_call11_call0_v1 : Ref sig .tc := ⟨.hbm, 235, rfl⟩
abbrev main_call11_v4 : Ref sig .tc := ⟨.hbm, 236, rfl⟩
abbrev main_call11_v5 : Ref sig .tc := ⟨.hbm, 237, rfl⟩
abbrev main_call11_cst_2 : Ref sig .tc := ⟨.hbm, 238, rfl⟩
abbrev main_call11_v6 : Ref sig .tc := ⟨.hbm, 239, rfl⟩
abbrev main_call11_v7 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_cst_23 : Ref sig .tc := ⟨.hbm, 255, rfl⟩
abbrev main_call12_cst : Ref sig .tc := ⟨.hbm, 256, rfl⟩
abbrev main_call12_v0 : Ref sig .tc := ⟨.hbm, 257, rfl⟩
abbrev main_call12_v1 : Ref sig .tc := ⟨.hbm, 258, rfl⟩
abbrev main_call12_v2 : Ref sig .tc := ⟨.hbm, 259, rfl⟩
abbrev main_call12_v3 : Ref sig .tc := ⟨.hbm, 260, rfl⟩
abbrev main_call12_v4 : Ref sig .tc := ⟨.hbm, 261, rfl⟩
abbrev main_v137 : Ref sig .tc := ⟨.hbm, 262, rfl⟩
abbrev main_v138 : Ref sig .tc := ⟨.hbm, 263, rfl⟩
abbrev main_cst_24 : Ref sig .tc := ⟨.hbm, 264, rfl⟩
abbrev main_v139 : Ref sig .tc := ⟨.hbm, 265, rfl⟩
abbrev main_v140 : Ref sig .tc := ⟨.hbm, 266, rfl⟩
abbrev main_cst_25 : Ref sig .tc := ⟨.hbm, 267, rfl⟩
abbrev main_call13_v0 : Ref sig .tc := ⟨.hbm, 268, rfl⟩
abbrev main_v141 : Ref sig .tc := ⟨.hbm, 269, rfl⟩
abbrev main_cst_26 : Ref sig .tc := ⟨.hbm, 270, rfl⟩
abbrev main_v142 : Ref sig .tc := ⟨.hbm, 271, rfl⟩
abbrev main_cst_27 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_cst_28 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_call14_cst : Ref sig .tc := ⟨.hbm, 285, rfl⟩
abbrev main_call14_v0 : Ref sig .tc := ⟨.hbm, 286, rfl⟩
abbrev main_call14_v1 : Ref sig .tc := ⟨.hbm, 287, rfl⟩
abbrev main_call14_cst_0 : Ref sig .tc := ⟨.hbm, 288, rfl⟩
abbrev main_call14_v2 : Ref sig .tc := ⟨.hbm, 289, rfl⟩
abbrev main_call14_v3 : Ref sig .tc := ⟨.hbm, 290, rfl⟩
abbrev main_call14_cst_1 : Ref sig .tc := ⟨.hbm, 291, rfl⟩
abbrev main_call14_call0_v0 : Ref sig .tc := ⟨.hbm, 292, rfl⟩
abbrev main_call14_call0_v1 : Ref sig .tc := ⟨.hbm, 293, rfl⟩
abbrev main_call14_v4 : Ref sig .tc := ⟨.hbm, 294, rfl⟩
abbrev main_call14_v5 : Ref sig .tc := ⟨.hbm, 295, rfl⟩
abbrev main_call14_cst_2 : Ref sig .tc := ⟨.hbm, 296, rfl⟩
abbrev main_call14_v6 : Ref sig .tc := ⟨.hbm, 297, rfl⟩
abbrev main_call14_v7 : Ref sig .tc := ⟨.hbm, 298, rfl⟩
abbrev main_v154 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_v160 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_v164 : Ref sig .tc := ⟨.hbm, 309, rfl⟩
abbrev main_v165 : Ref sig .tc := ⟨.hbm, 310, rfl⟩
abbrev main_v166 : Ref sig .tc := ⟨.hbm, 311, rfl⟩
abbrev main_v167 : Ref sig .tc := ⟨.hbm, 312, rfl⟩
abbrev main_cst_29 : Ref sig .tc := ⟨.hbm, 313, rfl⟩
abbrev main_call15_cst : Ref sig .tc := ⟨.hbm, 314, rfl⟩
abbrev main_call15_v0 : Ref sig .tc := ⟨.hbm, 315, rfl⟩
abbrev main_call15_v1 : Ref sig .tc := ⟨.hbm, 316, rfl⟩
abbrev main_call15_v2 : Ref sig .tc := ⟨.hbm, 317, rfl⟩
abbrev main_call15_v3 : Ref sig .tc := ⟨.hbm, 318, rfl⟩
abbrev main_call15_v4 : Ref sig .tc := ⟨.hbm, 319, rfl⟩
abbrev main_v168 : Ref sig .tc := ⟨.hbm, 320, rfl⟩
abbrev main_v169 : Ref sig .tc := ⟨.hbm, 321, rfl⟩
abbrev main_cst_30 : Ref sig .tc := ⟨.hbm, 322, rfl⟩
abbrev main_v170 : Ref sig .tc := ⟨.hbm, 323, rfl⟩
abbrev main_v171 : Ref sig .tc := ⟨.hbm, 324, rfl⟩
abbrev main_cst_31 : Ref sig .tc := ⟨.hbm, 325, rfl⟩
abbrev main_call16_v0 : Ref sig .tc := ⟨.hbm, 326, rfl⟩
abbrev main_v172 : Ref sig .tc := ⟨.hbm, 327, rfl⟩
abbrev main_cst_32 : Ref sig .tc := ⟨.hbm, 328, rfl⟩
abbrev main_v173 : Ref sig .tc := ⟨.hbm, 329, rfl⟩
abbrev main_cst_33 : Ref sig .tc := ⟨.hbm, 330, rfl⟩
abbrev main_v174 : Ref sig .tc := ⟨.hbm, 331, rfl⟩
abbrev main_v175 : Ref sig .tc := ⟨.hbm, 332, rfl⟩
abbrev main_v176 : Ref sig .tc := ⟨.hbm, 333, rfl⟩
abbrev main_v177 : Ref sig .tc := ⟨.hbm, 334, rfl⟩
abbrev main_v178 : Ref sig .tc := ⟨.hbm, 335, rfl⟩
abbrev main_v179 : Ref sig .tc := ⟨.hbm, 336, rfl⟩
abbrev main_cst_34 : Ref sig .tc := ⟨.hbm, 337, rfl⟩
abbrev main_v180 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_call17_cst : Ref sig .tc := ⟨.hbm, 343, rfl⟩
abbrev main_call17_v0 : Ref sig .tc := ⟨.hbm, 344, rfl⟩
abbrev main_call17_v1 : Ref sig .tc := ⟨.hbm, 345, rfl⟩
abbrev main_call17_cst_0 : Ref sig .tc := ⟨.hbm, 346, rfl⟩
abbrev main_call17_v2 : Ref sig .tc := ⟨.hbm, 347, rfl⟩
abbrev main_call17_v3 : Ref sig .tc := ⟨.hbm, 348, rfl⟩
abbrev main_call17_cst_1 : Ref sig .tc := ⟨.hbm, 349, rfl⟩
abbrev main_call17_call0_v0 : Ref sig .tc := ⟨.hbm, 350, rfl⟩
abbrev main_call17_call0_v1 : Ref sig .tc := ⟨.hbm, 351, rfl⟩
abbrev main_call17_v4 : Ref sig .tc := ⟨.hbm, 352, rfl⟩
abbrev main_call17_v5 : Ref sig .tc := ⟨.hbm, 353, rfl⟩
abbrev main_call17_cst_2 : Ref sig .tc := ⟨.hbm, 354, rfl⟩
abbrev main_call17_v6 : Ref sig .tc := ⟨.hbm, 355, rfl⟩
abbrev main_call17_v7 : Ref sig .tc := ⟨.hbm, 356, rfl⟩
abbrev main_v185 : Ref sig .tc := ⟨.hbm, 357, rfl⟩
abbrev main_v186 : Ref sig .tc := ⟨.hbm, 358, rfl⟩
abbrev main_v187 : Ref sig .tc := ⟨.hbm, 359, rfl⟩
abbrev main_v188 : Ref sig .tc := ⟨.hbm, 360, rfl⟩
abbrev main_v189 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_v198 : Ref sig .tc := ⟨.hbm, 370, rfl⟩
abbrev main_cst_35 : Ref sig .tc := ⟨.hbm, 371, rfl⟩
abbrev main_call18_cst : Ref sig .tc := ⟨.hbm, 372, rfl⟩
abbrev main_call18_v0 : Ref sig .tc := ⟨.hbm, 373, rfl⟩
abbrev main_call18_v1 : Ref sig .tc := ⟨.hbm, 374, rfl⟩
abbrev main_call18_v2 : Ref sig .tc := ⟨.hbm, 375, rfl⟩
abbrev main_call18_v3 : Ref sig .tc := ⟨.hbm, 376, rfl⟩
abbrev main_call18_v4 : Ref sig .tc := ⟨.hbm, 377, rfl⟩
abbrev main_v199 : Ref sig .tc := ⟨.hbm, 378, rfl⟩
abbrev main_v200 : Ref sig .tc := ⟨.hbm, 379, rfl⟩
abbrev main_cst_36 : Ref sig .tc := ⟨.hbm, 380, rfl⟩
abbrev main_v201 : Ref sig .tc := ⟨.hbm, 381, rfl⟩
abbrev main_v202 : Ref sig .tc := ⟨.hbm, 382, rfl⟩
abbrev main_cst_37 : Ref sig .tc := ⟨.hbm, 383, rfl⟩
abbrev main_call19_v0 : Ref sig .tc := ⟨.hbm, 384, rfl⟩
abbrev main_v203 : Ref sig .tc := ⟨.hbm, 385, rfl⟩
abbrev main_cst_38 : Ref sig .tc := ⟨.hbm, 386, rfl⟩
abbrev main_v204 : Ref sig .tc := ⟨.hbm, 387, rfl⟩
abbrev main_cst_39 : Ref sig .tc := ⟨.hbm, 388, rfl⟩
abbrev main_v205 : Ref sig .tc := ⟨.hbm, 389, rfl⟩
abbrev main_v206 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_v210 : Ref sig .tc := ⟨.hbm, 394, rfl⟩
abbrev main_cst_40 : Ref sig .tc := ⟨.hbm, 395, rfl⟩
abbrev main_v211 : Ref sig .tc := ⟨.hbm, 396, rfl⟩
abbrev main_v212 : Ref sig .tc := ⟨.hbm, 397, rfl⟩
abbrev main_v213 : Ref sig .tc := ⟨.hbm, 398, rfl⟩
abbrev main_v214 : Ref sig .tc := ⟨.hbm, 399, rfl⟩
abbrev main_v215 : Ref sig .tc := ⟨.hbm, 400, rfl⟩
abbrev main_call20_cst : Ref sig .tc := ⟨.hbm, 401, rfl⟩
abbrev main_call20_v0 : Ref sig .tc := ⟨.hbm, 402, rfl⟩
abbrev main_call20_v1 : Ref sig .tc := ⟨.hbm, 403, rfl⟩
abbrev main_call20_cst_0 : Ref sig .tc := ⟨.hbm, 404, rfl⟩
abbrev main_call20_v2 : Ref sig .tc := ⟨.hbm, 405, rfl⟩
abbrev main_call20_v3 : Ref sig .tc := ⟨.hbm, 406, rfl⟩
abbrev main_call20_cst_1 : Ref sig .tc := ⟨.hbm, 407, rfl⟩
abbrev main_call20_call0_v0 : Ref sig .tc := ⟨.hbm, 408, rfl⟩
abbrev main_call20_call0_v1 : Ref sig .tc := ⟨.hbm, 409, rfl⟩
abbrev main_call20_v4 : Ref sig .tc := ⟨.hbm, 410, rfl⟩
abbrev main_call20_v5 : Ref sig .tc := ⟨.hbm, 411, rfl⟩
abbrev main_call20_cst_2 : Ref sig .tc := ⟨.hbm, 412, rfl⟩
abbrev main_call20_v6 : Ref sig .tc := ⟨.hbm, 413, rfl⟩
abbrev main_call20_v7 : Ref sig .tc := ⟨.hbm, 414, rfl⟩
abbrev main_v216 : Ref sig .tc := ⟨.hbm, 415, rfl⟩
abbrev main_v217 : Ref sig .tc := ⟨.hbm, 416, rfl⟩
abbrev main_v218 : Ref sig .tc := ⟨.hbm, 417, rfl⟩
abbrev main_v219 : Ref sig .tc := ⟨.hbm, 418, rfl⟩
abbrev main_v220 : Ref sig .tc := ⟨.hbm, 419, rfl⟩
abbrev main_v221 : Ref sig .tc := ⟨.hbm, 420, rfl⟩
abbrev main_v222 : Ref sig .tc := ⟨.hbm, 421, rfl⟩
abbrev main_v223 : Ref sig .tc := ⟨.hbm, 422, rfl⟩
abbrev main_v224 : Ref sig .tc := ⟨.hbm, 423, rfl⟩
abbrev main_v225 : Ref sig .tc := ⟨.hbm, 424, rfl⟩
abbrev main_v226 : Ref sig .tc := ⟨.hbm, 425, rfl⟩
abbrev main_v227 : Ref sig .tc := ⟨.hbm, 426, rfl⟩
abbrev main_v228 : Ref sig .tc := ⟨.hbm, 427, rfl⟩
abbrev main_v229 : Ref sig .tc := ⟨.hbm, 428, rfl⟩
abbrev main_cst_41 : Ref sig .tc := ⟨.hbm, 429, rfl⟩
abbrev main_call21_cst : Ref sig .tc := ⟨.hbm, 430, rfl⟩
abbrev main_call21_v0 : Ref sig .tc := ⟨.hbm, 431, rfl⟩
abbrev main_call21_v1 : Ref sig .tc := ⟨.hbm, 432, rfl⟩
abbrev main_call21_v2 : Ref sig .tc := ⟨.hbm, 433, rfl⟩
abbrev main_call21_v3 : Ref sig .tc := ⟨.hbm, 434, rfl⟩
abbrev main_call21_v4 : Ref sig .tc := ⟨.hbm, 435, rfl⟩
abbrev main_v230 : Ref sig .tc := ⟨.hbm, 436, rfl⟩
abbrev main_v231 : Ref sig .tc := ⟨.hbm, 437, rfl⟩
abbrev main_cst_42 : Ref sig .tc := ⟨.hbm, 438, rfl⟩
abbrev main_v232 : Ref sig .tc := ⟨.hbm, 439, rfl⟩
abbrev main_v233 : Ref sig .tc := ⟨.hbm, 440, rfl⟩
abbrev main_cst_43 : Ref sig .tc := ⟨.hbm, 441, rfl⟩
abbrev main_call22_v0 : Ref sig .tc := ⟨.hbm, 442, rfl⟩
abbrev main_v234 : Ref sig .tc := ⟨.hbm, 443, rfl⟩
abbrev main_cst_44 : Ref sig .tc := ⟨.hbm, 444, rfl⟩
abbrev main_v235 : Ref sig .tc := ⟨.hbm, 445, rfl⟩
abbrev main_cst_45 : Ref sig .tc := ⟨.hbm, 446, rfl⟩
abbrev main_v236 : Ref sig .tc := ⟨.hbm, 447, rfl⟩
abbrev main_v237 : Ref sig .tc := ⟨.hbm, 448, rfl⟩
abbrev main_v238 : Ref sig .tc := ⟨.hbm, 449, rfl⟩
abbrev main_v239 : Ref sig .tc := ⟨.hbm, 450, rfl⟩
abbrev main_v240 : Ref sig .tc := ⟨.hbm, 451, rfl⟩
abbrev main_v241 : Ref sig .tc := ⟨.hbm, 452, rfl⟩
abbrev main_cst_46 : Ref sig .tc := ⟨.hbm, 453, rfl⟩
abbrev main_v242 : Ref sig .tc := ⟨.hbm, 454, rfl⟩
abbrev main_v243 : Ref sig .tc := ⟨.hbm, 455, rfl⟩
abbrev main_v244 : Ref sig .tc := ⟨.hbm, 456, rfl⟩
abbrev main_v245 : Ref sig .tc := ⟨.hbm, 457, rfl⟩
abbrev main_v246 : Ref sig .tc := ⟨.hbm, 458, rfl⟩
abbrev main_call23_cst : Ref sig .tc := ⟨.hbm, 459, rfl⟩
abbrev main_call23_v0 : Ref sig .tc := ⟨.hbm, 460, rfl⟩
abbrev main_call23_v1 : Ref sig .tc := ⟨.hbm, 461, rfl⟩
abbrev main_call23_cst_0 : Ref sig .tc := ⟨.hbm, 462, rfl⟩
abbrev main_call23_v2 : Ref sig .tc := ⟨.hbm, 463, rfl⟩
abbrev main_call23_v3 : Ref sig .tc := ⟨.hbm, 464, rfl⟩
abbrev main_call23_cst_1 : Ref sig .tc := ⟨.hbm, 465, rfl⟩
abbrev main_call23_call0_v0 : Ref sig .tc := ⟨.hbm, 466, rfl⟩
abbrev main_call23_call0_v1 : Ref sig .tc := ⟨.hbm, 467, rfl⟩
abbrev main_call23_v4 : Ref sig .tc := ⟨.hbm, 468, rfl⟩
abbrev main_call23_v5 : Ref sig .tc := ⟨.hbm, 469, rfl⟩
abbrev main_call23_cst_2 : Ref sig .tc := ⟨.hbm, 470, rfl⟩
abbrev main_call23_v6 : Ref sig .tc := ⟨.hbm, 471, rfl⟩
abbrev main_call23_v7 : Ref sig .tc := ⟨.hbm, 472, rfl⟩
abbrev main_v247 : Ref sig .tc := ⟨.hbm, 473, rfl⟩
abbrev main_v248 : Ref sig .tc := ⟨.hbm, 474, rfl⟩
abbrev main_v249 : Ref sig .tc := ⟨.hbm, 475, rfl⟩
abbrev main_v250 : Ref sig .tc := ⟨.hbm, 476, rfl⟩
abbrev main_v251 : Ref sig .tc := ⟨.hbm, 477, rfl⟩
abbrev main_v252 : Ref sig .tc := ⟨.hbm, 478, rfl⟩
abbrev main_v253 : Ref sig .tc := ⟨.hbm, 479, rfl⟩
abbrev main_v254 : Ref sig .tc := ⟨.hbm, 480, rfl⟩
abbrev main_v255 : Ref sig .tc := ⟨.hbm, 481, rfl⟩
abbrev main_cst_47 : Ref sig .tc := ⟨.hbm, 482, rfl⟩
abbrev main_v256 : Ref sig .tc := ⟨.hbm, 483, rfl⟩
abbrev main_c : Ref sig .tc := ⟨.hbm, 484, rfl⟩
abbrev main_v257 : Ref sig .tc := ⟨.hbm, 485, rfl⟩
abbrev main_v258 : Ref sig .tc := ⟨.hbm, 486, rfl⟩
abbrev main_c_48 : Ref sig .tc := ⟨.hbm, 487, rfl⟩
abbrev main_v259 : Ref sig .tc := ⟨.hbm, 488, rfl⟩
abbrev main_v260 : Ref sig .tc := ⟨.hbm, 489, rfl⟩
abbrev main_v261 : Ref sig .tc := ⟨.hbm, 490, rfl⟩
abbrev main_v262 : Ref sig .tc := ⟨.hbm, 491, rfl⟩
abbrev main_cst_49 : Ref sig .tc := ⟨.hbm, 492, rfl⟩
abbrev main_v263 : Ref sig .tc := ⟨.hbm, 493, rfl⟩
abbrev main_v264 : Ref sig .tc := ⟨.hbm, 494, rfl⟩
abbrev main_cst_50 : Ref sig .tc := ⟨.hbm, 495, rfl⟩
abbrev main_v265 : Ref sig .tc := ⟨.hbm, 496, rfl⟩
abbrev main_v266 : Ref sig .tc := ⟨.hbm, 497, rfl⟩
abbrev main_v267 : Ref sig .tc := ⟨.hbm, 498, rfl⟩
abbrev main_c_51 : Ref sig .tc := ⟨.hbm, 499, rfl⟩
abbrev main_v268 : Ref sig .tc := ⟨.hbm, 500, rfl⟩
abbrev main_v269 : Ref sig .tc := ⟨.hbm, 501, rfl⟩
abbrev main_c_52 : Ref sig .tc := ⟨.hbm, 502, rfl⟩
abbrev main_v270 : Ref sig .tc := ⟨.hbm, 503, rfl⟩
abbrev main_v271 : Ref sig .tc := ⟨.hbm, 504, rfl⟩
abbrev main_v272 : Ref sig .tc := ⟨.hbm, 505, rfl⟩
abbrev main_v273 : Ref sig .tc := ⟨.hbm, 506, rfl⟩
abbrev main_v274 : Ref sig .tc := ⟨.hbm, 507, rfl⟩
abbrev main_c_53 : Ref sig .tc := ⟨.hbm, 508, rfl⟩
abbrev main_v275 : Ref sig .tc := ⟨.hbm, 509, rfl⟩
abbrev main_v276 : Ref sig .tc := ⟨.hbm, 510, rfl⟩
abbrev main_c_54 : Ref sig .tc := ⟨.hbm, 511, rfl⟩
abbrev main_v277 : Ref sig .tc := ⟨.hbm, 512, rfl⟩
abbrev main_v278 : Ref sig .tc := ⟨.hbm, 513, rfl⟩
abbrev main_v279 : Ref sig .tc := ⟨.hbm, 514, rfl⟩
abbrev main_v280 : Ref sig .tc := ⟨.hbm, 515, rfl⟩
abbrev main_v281 : Ref sig .tc := ⟨.hbm, 516, rfl⟩
abbrev main_v282 : Ref sig .tc := ⟨.hbm, 517, rfl⟩
abbrev main_v283 : Ref sig .tc := ⟨.hbm, 518, rfl⟩
abbrev main_c_55 : Ref sig .tc := ⟨.hbm, 519, rfl⟩
abbrev main_v284 : Ref sig .tc := ⟨.hbm, 520, rfl⟩
abbrev main_v285 : Ref sig .tc := ⟨.hbm, 521, rfl⟩
abbrev main_c_56 : Ref sig .tc := ⟨.hbm, 522, rfl⟩
abbrev main_v286 : Ref sig .tc := ⟨.hbm, 523, rfl⟩
abbrev main_v287 : Ref sig .tc := ⟨.hbm, 524, rfl⟩
abbrev main_v288 : Ref sig .tc := ⟨.hbm, 525, rfl⟩
abbrev main_v289 : Ref sig .tc := ⟨.hbm, 526, rfl⟩
abbrev main_v290 : Ref sig .tc := ⟨.hbm, 527, rfl⟩
abbrev main_v291 : Ref sig .tc := ⟨.hbm, 528, rfl⟩
abbrev main_v292 : Ref sig .tc := ⟨.hbm, 529, rfl⟩
abbrev main_v293 : Ref sig .tc := ⟨.hbm, 530, rfl⟩
abbrev main_cst_57 : Ref sig .tc := ⟨.hbm, 531, rfl⟩
abbrev main_v294 : Ref sig .tc := ⟨.hbm, 532, rfl⟩
abbrev main_v295 : Ref sig .tc := ⟨.hbm, 533, rfl⟩
abbrev main_v296 : Ref sig .tc := ⟨.hbm, 534, rfl⟩
abbrev main_v297 : Ref sig .tc := ⟨.hbm, 535, rfl⟩
abbrev main_v298 : Ref sig .tc := ⟨.hbm, 536, rfl⟩
abbrev main_v299 : Ref sig .tc := ⟨.hbm, 537, rfl⟩
abbrev main_call24_cst : Ref sig .tc := ⟨.hbm, 538, rfl⟩
abbrev main_call24_v0 : Ref sig .tc := ⟨.hbm, 539, rfl⟩
abbrev main_v300 : Ref sig .tc := ⟨.hbm, 540, rfl⟩
abbrev main_v301 : Ref sig .tc := ⟨.hbm, 541, rfl⟩
abbrev main_v302 : Ref sig .tc := ⟨.hbm, 542, rfl⟩
abbrev main_v303 : Ref sig .tc := ⟨.hbm, 543, rfl⟩
abbrev main_cst_58 : Ref sig .tc := ⟨.hbm, 544, rfl⟩
abbrev main_v304 : Ref sig .tc := ⟨.hbm, 545, rfl⟩
abbrev main_c_59 : Ref sig .tc := ⟨.hbm, 546, rfl⟩
abbrev main_v305 : Ref sig .tc := ⟨.hbm, 547, rfl⟩
abbrev main_v306 : Ref sig .tc := ⟨.hbm, 548, rfl⟩
abbrev main_c_60 : Ref sig .tc := ⟨.hbm, 549, rfl⟩
abbrev main_v307 : Ref sig .tc := ⟨.hbm, 550, rfl⟩
abbrev main_v308 : Ref sig .tc := ⟨.hbm, 551, rfl⟩
abbrev main_v309 : Ref sig .tc := ⟨.hbm, 552, rfl⟩
abbrev main_v310 : Ref sig .tc := ⟨.hbm, 553, rfl⟩
abbrev main_cst_61 : Ref sig .tc := ⟨.hbm, 554, rfl⟩
abbrev main_v311 : Ref sig .tc := ⟨.hbm, 555, rfl⟩
abbrev main_v312 : Ref sig .tc := ⟨.hbm, 556, rfl⟩
abbrev main_cst_62 : Ref sig .tc := ⟨.hbm, 557, rfl⟩
abbrev main_v313 : Ref sig .tc := ⟨.hbm, 558, rfl⟩
abbrev main_v314 : Ref sig .tc := ⟨.hbm, 559, rfl⟩
abbrev main_v315 : Ref sig .tc := ⟨.hbm, 560, rfl⟩
abbrev main_c_63 : Ref sig .tc := ⟨.hbm, 561, rfl⟩
abbrev main_v316 : Ref sig .tc := ⟨.hbm, 562, rfl⟩
abbrev main_v317 : Ref sig .tc := ⟨.hbm, 563, rfl⟩
abbrev main_c_64 : Ref sig .tc := ⟨.hbm, 564, rfl⟩
abbrev main_v318 : Ref sig .tc := ⟨.hbm, 565, rfl⟩
abbrev main_v319 : Ref sig .tc := ⟨.hbm, 566, rfl⟩
abbrev main_v320 : Ref sig .tc := ⟨.hbm, 567, rfl⟩
abbrev main_v321 : Ref sig .tc := ⟨.hbm, 568, rfl⟩
abbrev main_v322 : Ref sig .tc := ⟨.hbm, 569, rfl⟩
abbrev main_c_65 : Ref sig .tc := ⟨.hbm, 570, rfl⟩
abbrev main_v323 : Ref sig .tc := ⟨.hbm, 571, rfl⟩
abbrev main_v324 : Ref sig .tc := ⟨.hbm, 572, rfl⟩
abbrev main_c_66 : Ref sig .tc := ⟨.hbm, 573, rfl⟩
abbrev main_v325 : Ref sig .tc := ⟨.hbm, 574, rfl⟩
abbrev main_v326 : Ref sig .tc := ⟨.hbm, 575, rfl⟩
abbrev main_v327 : Ref sig .tc := ⟨.hbm, 576, rfl⟩
abbrev main_v328 : Ref sig .tc := ⟨.hbm, 577, rfl⟩
abbrev main_v329 : Ref sig .tc := ⟨.hbm, 578, rfl⟩
abbrev main_v330 : Ref sig .tc := ⟨.hbm, 579, rfl⟩
abbrev main_v331 : Ref sig .tc := ⟨.hbm, 580, rfl⟩
abbrev main_c_67 : Ref sig .tc := ⟨.hbm, 581, rfl⟩
abbrev main_v332 : Ref sig .tc := ⟨.hbm, 582, rfl⟩
abbrev main_v333 : Ref sig .tc := ⟨.hbm, 583, rfl⟩
abbrev main_c_68 : Ref sig .tc := ⟨.hbm, 584, rfl⟩
abbrev main_v334 : Ref sig .tc := ⟨.hbm, 585, rfl⟩
abbrev main_v335 : Ref sig .tc := ⟨.hbm, 586, rfl⟩
abbrev main_v336 : Ref sig .tc := ⟨.hbm, 587, rfl⟩
abbrev main_v337 : Ref sig .tc := ⟨.hbm, 588, rfl⟩
abbrev main_v338 : Ref sig .tc := ⟨.hbm, 589, rfl⟩
abbrev main_v339 : Ref sig .tc := ⟨.hbm, 590, rfl⟩
abbrev main_v340 : Ref sig .tc := ⟨.hbm, 591, rfl⟩
abbrev main_v341 : Ref sig .tc := ⟨.hbm, 592, rfl⟩
abbrev main_cst_69 : Ref sig .tc := ⟨.hbm, 593, rfl⟩
abbrev main_v342 : Ref sig .tc := ⟨.hbm, 594, rfl⟩
abbrev main_v343 : Ref sig .tc := ⟨.hbm, 595, rfl⟩
abbrev main_v344 : Ref sig .tc := ⟨.hbm, 596, rfl⟩
abbrev main_v345 : Ref sig .tc := ⟨.hbm, 597, rfl⟩
abbrev main_v346 : Ref sig .tc := ⟨.hbm, 598, rfl⟩
abbrev main_v347 : Ref sig .tc := ⟨.hbm, 599, rfl⟩

abbrev nD : Nat := 1
abbrev τ : Topo := Topo.v7x

variable {F : FTy → Type} [FloatOps F]
-- ==== Proof.KRun.lean ====
/- The kernel program's run from any launch memory: it ends with its result array at the last boundary's contents
   (`W6` of the generated frame) and its argument arrays as launched. -/
module

public import proofs.«01_k».proof.Proof.Gen.KernelIdeal.Frame
public import Idealize.ShloMosaic.PureOps.Ideal

@[expose] public section

set_option maxRecDepth 16384

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel program ends with every unscoped buffer of every device at the contents `W6` names. -/
theorem run_all : θ_run (defs (F := Ideal)) (onTc (τ := τ) (main (F := Ideal))) ⟨m, fun _ => 0, ρ⟩ (fun r =>
      ∀ (c : Dev nD), ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Gat

end
-- ==== Proof.Head.lean ====
module
public import proofs.«01_k».proof.Proof.Gen.KernelIdeal.Frame
public import Idealize.ShloMosaic.PureOps.Ideal
public import Idealize.ShloMosaic.Lib.Pointwise

/-! One attention head on one row: the formula both programs compute, and the kernel's payload as that formula. -/

@[expose] public section
set_option maxRecDepth 16384
noncomputable section
namespace Cert.Gat
open Cert.KernelIdeal Cert.KernelIdeal.Gen Idealize.ShloMosaic

/-- The score of a source against a target: a leaky rectifier of the sum `s` times the link weight `l` where the
adjacency entry `a` is positive, and the large negative constant elsewhere. -/
def score (a l s : EReal) : EReal :=
  if 0 < a then max s (Ideal.ofBits FTy.f32 0x3E4CCCCD#32 * s) * l else Ideal.ofBits FTy.f32 0xD9FFCB9E#32

/-- The exponential of a row's score at `k`, the row's greatest score subtracted first. -/
def unnormalized (s : Fin 4096 → EReal) (k : Fin 4096) : EReal :=
  Ideal.exp (s k - Finset.fold max (Ideal.ofBits FTy.f32 0xFF800000#32) s Finset.univ)

/-- The average of `v` under the softmax of the scores `s`. -/
def attend (s v : Fin 4096 → EReal) : EReal :=
  ∑ k, Ideal.div (unnormalized s k) (∑ k', unnormalized s k') * v k

/-- The exponential linear unit. -/
def elu (u : EReal) : EReal := if 0 < u then u else Ideal.exp u - 1

/-- One head's output for one source: `a`, `l` its rows of the adjacency and of the link weights, `p` its own part of
the score, `q` each target's part, `v` the projected column that is averaged. -/
def headRow (a l : Fin 4096 → EReal) (p : EReal) (q v : Fin 4096 → EReal) : EReal :=
  elu (attend (fun k => score (a k) (l k) (p + q k)) v)

/-- The first head's payload at row `r` and column `j`. -/
theorem pay_apply (v0 v1 : Vec Ideal S256x4096 .f32) (v2 : Vec Ideal S256x1 .f32) (v4 : Vec Ideal S1x4096 .f32)
    (v26 : Vec Ideal S4096x8 .f32) (r : Fin 256) (j : Fin 8) :
    k1_pay1 v0 v1 v2 v4 v26 (ix2 r j)
      = headRow (fun k => v0 (ix2 r k)) (fun k => v1 (ix2 r k)) (v2 (ix2 r 0)) (fun k => v4 (ix2 0 k))
          (fun k => v26 (ix2 k j)) := by
  pointwise [k1_pay1]
  simp only [headRow, elu, attend, unnormalized, score]
/-- The columns of the output that entry `k` of the stores writes. -/
abbrev headStore (k : Fin 8) : Rect S256x64 :=
  Rect.unit (s := S256x64) ![0, 8 * (7 - k.val)] S256x8.size (by revert k; decide)

/-- The column of the sources' parts that entry `k` reads. -/
abbrev sourceLoad (k : Fin 8) : Rect S256x8 :=
  Rect.unit (s := S256x8) ![0, 7 - k.val] S256x1.size (by revert k; decide)

/-- The row of the targets' parts that entry `k` reads. -/
abbrev targetLoad (k : Fin 8) : Rect S8x4096 :=
  Rect.unit (s := S8x4096) ![7 - k.val, 0] S1x4096.size (by revert k; decide)

/-- The columns of the projection that entry `k` reads. -/
abbrev valueLoad (k : Fin 8) : Rect S4096x64 :=
  Rect.unit (s := S4096x64) ![0, 8 * (7 - k.val)] S4096x8.size (by revert k; decide)

/-- The block's output is eight stores of one payload: head `h` reads column `h` of the sources' parts, row `h` of the
targets' parts and columns `8h` to `8h + 7` of the projection, and stores columns `8h` to `8h + 7`. The last store is
listed first, so entry `k` is head `7 - k`. -/
theorem out_eq (x0 x1 : Vec Ideal S256x4096 .f32) (x2 : Vec Ideal S256x8 .f32) (x3 : Vec Ideal S8x4096 .f32)
    (x4 : Vec Ideal S4096x64 .f32) :
    out1_5 x0 x1 x2 x3 x4 = View.canon (List.ofFn fun k : Fin 8 =>
      ⟨headStore k, k1_pay1 (View.ld x0 r1_0) (View.ld x1 r1_0) (View.ld x2 (sourceLoad k)) (View.ld x3 (targetLoad k))
        (View.ld x4 (valueLoad k))⟩) := rfl

/-- The head of an output column. -/
abbrev headOf (q : Fin 64) : Fin 8 := ⟨q.val / 8, by omega⟩

/-- Two indices of a two-axis array whose coordinates agree read the same element. -/
theorem read_eq {α : Type} {A B : Nat} (X : Shape.Idx ⟨2, ![A, B]⟩ → α) {i j : Shape.Idx ⟨2, ![A, B]⟩}
    (h₀ : (i 0).val = (j 0).val) (h₁ : (i 1).val = (j 1).val) : X i = X j :=
  congrArg X (funext (Fin.forall_fin_two.2 ⟨Fin.ext h₀, Fin.ext h₁⟩))

/-- The block's output as one array: each column is its head's formula. -/
def blockOut (x0 x1 : Vec Ideal S256x4096 .f32) (x2 : Vec Ideal S256x8 .f32) (x3 : Vec Ideal S8x4096 .f32)
    (x4 : Vec Ideal S4096x64 .f32) : Vec Ideal S256x64 .f32 := fun y =>
  headRow (fun k => x0 (ix2 (y 0) k)) (fun k => x1 (ix2 (y 0) k)) (x2 (ix2 (y 0) (headOf (y 1))))
    (fun k => x3 (ix2 (headOf (y 1)) k)) (fun k => x4 (ix2 k (y 1)))

/-- The block's output at a row and a column: the column's head on that row. -/
theorem out_apply (x0 x1 : Vec Ideal S256x4096 .f32) (x2 : Vec Ideal S256x8 .f32) (x3 : Vec Ideal S8x4096 .f32)
    (x4 : Vec Ideal S4096x64 .f32) (r : Fin 256) (q : Fin 64) :
    out1_5 x0 x1 x2 x3 x4 (ix2 r q)
      = headRow (fun k => x0 (ix2 r k)) (fun k => x1 (ix2 r k)) (x2 (ix2 r (headOf q)))
          (fun k => x3 (ix2 (headOf q) k)) (fun k => x4 (ix2 k q)) := by
  rw [out_eq]
  refine View.canon_apply_of_pieces (blockOut x0 x1 x2 x3 x4) _ ?_ (ix2 r q) ?_
  · rw [List.forall_mem_ofFn_iff]
    intro k x
    obtain ⟨r, j, rfl⟩ : ∃ (r : Fin 256) (j : Fin 8), x = ix2 r j := ⟨_, _, eq_ix2 x⟩
    have hk : (8 * (7 - k.val) + 1 * j.val) / 8 = 7 - k.val := by omega
    refine (pay_apply _ _ _ _ _ r j).trans (congr (congr (congr (congr (congrArg headRow ?_) ?_) ?_) ?_) ?_)
    · funext l
      exact read_eq x0 (by show 0 + 1 * r.val = 0 + 1 * r.val; rfl) (by show 0 + 1 * l.val = l.val; omega)
    · funext l
      exact read_eq x1 (by show 0 + 1 * r.val = 0 + 1 * r.val; rfl) (by show 0 + 1 * l.val = l.val; omega)
    · exact read_eq x2 (by show 0 + 1 * r.val = 0 + 1 * r.val; rfl)
        (by show 7 - k.val + 1 * 0 = (8 * (7 - k.val) + 1 * j.val) / 8; omega)
    · funext l
      exact read_eq x3 (by show 7 - k.val + 1 * 0 = (8 * (7 - k.val) + 1 * j.val) / 8; omega)
        (by show 0 + 1 * l.val = l.val; omega)
    · funext l
      exact read_eq x4 (by show 0 + 1 * l.val = l.val; omega)
        (by show 8 * (7 - k.val) + 1 * j.val = 8 * (7 - k.val) + 1 * j.val; rfl)
  · have hq : ix2 r q ∈ (headStore ⟨7 - q.val / 8, by omega⟩).set := by
      refine Rect.mem_set_unit.2 (Fin.forall_fin_two.2 ⟨?_, ?_⟩)
      · show 0 ≤ r.val ∧ r.val < 0 + 256
        omega
      · show 8 * (7 - (7 - q.val / 8)) ≤ q.val ∧ q.val < 8 * (7 - (7 - q.val / 8)) + 8
        omega
    exact ⟨_, List.mem_ofFn.2 ⟨⟨7 - q.val / 8, by omega⟩, rfl⟩, hq⟩

end Cert.Gat
end
-- ==== Proof.Pre.lean ====
module
public import proofs.«01_k».proof.Proof.Head
public import Idealize.ShloMosaic.Lib.Pipeline.Value
public import Idealize.ShloMosaic.Lib.StableHlo.RunRead

/-! What the first kernel leaves: the projection of every head side by side, and each head's two parts of the score. -/

@[expose] public section
set_option maxRecDepth 16384
noncomputable section
namespace Cert.Gat
open Cert.KernelIdeal Cert.KernelIdeal.Gen Idealize.ShloMosaic Idealize.ShloMosaic.TcCoe Idealize.SL.Sem
open Idealize.ShloMosaic.StableHlo

/-! ## The operands the host prepares -/

/-- The identity matrix, as the comparison of two counting arrays. -/
def eye : FVec Ideal S8x8 .f32 :=
  uitofp .f32 (cmpi .eq (addi (iotaInDim S8x8 32 0) (broadcastInDim S8x8 ![] bcast_S_S8x8 (constantI S_ 32 0#32)))
    (iotaInDim S8x8 32 1))

/-- One vector per head laid out block by block: column `h` holds head `h`'s vector in rows `8h` to `8h + 7`. -/
def spread (a : Vec Ideal S8x8 .f32) : Vec Ideal S64x8 .f32 :=
  shapeCast S64x8 (mulf (F := Ideal) (φ := .f32)
    (broadcastInDim S8x8x8 ![0, 1, 2] bcast_S8x8x1_S8x8x8_0_1_2 (broadcastInDim S8x8x1 ![0, 1] bcast_S8x8_S8x8x1_0_1 a))
    (broadcastInDim S8x8x8 ![0, 1, 2] bcast_S8x1x8_S8x8x8_0_1_2 (broadcastInDim S8x1x8 ![0, 2] bcast_S8x8_S8x1x8_0_2 eye)))
    shapeCasts_S8x8x8_S64x8

/-- The first half of each head's attention vector. -/
def sourceHalf (a : Vec Ideal S8x16x1 .f32) : Vec Ideal S8x8 .f32 :=
  shapeCast S8x8 (extractStridedSlice S8x8x1 ![0, 0, 0] a slices_S8x16x1_S8x8x1_0_0_0) shapeCasts_S8x8x1_S8x8

/-- The second half of each head's attention vector. -/
def targetHalf (a : Vec Ideal S8x16x1 .f32) : Vec Ideal S8x8 .f32 :=
  shapeCast S8x8 (extractStridedSlice S8x8x1 ![0, 8, 0] a slices_S8x16x1_S8x8x1_0_8_0) shapeCasts_S8x8x1_S8x8

/-- The heads' weight matrices side by side. -/
def sideBySide (w : Vec Ideal S8x128x8 .f32) : Vec Ideal S128x64 .f32 :=
  shapeCast S128x64 (transpose S128x8x8 [1, 0, 2] w transposes_S8x128x8_S128x8x8_1_0_2) shapeCasts_S128x8x8_S128x64

/-- The host's first line leaves the weights side by side, -/
theorem read_weights (V : Valuation τ sig (Elt Ideal)) :
    after hostOps0 V (Proc.devRef .tc main_call0_v1) = sideBySide (V (Proc.devRef .tc main_arg4)) := by
  after_reads_simp
  rfl

/-- the sources' vectors laid out by blocks, -/
theorem read_sources (V : Valuation τ sig (Elt Ideal)) :
    after hostOps0 V (Proc.devRef .tc main_call0_v17) = spread (sourceHalf (V (Proc.devRef .tc main_arg5))) := by
  after_reads_simp
  rfl

/-- and the targets'. -/
theorem read_targets (V : Valuation τ sig (Elt Ideal)) :
    after hostOps0 V (Proc.devRef .tc main_call0_v23) = spread (targetHalf (V (Proc.devRef .tc main_arg5))) := by
  after_reads_simp
  rfl

/-- The identity matrix at an index. -/
theorem eye_apply (k h : Fin 8) : eye (ix2 k h) = if k = h then (1 : EReal) else 0 := by
  show FloatOps.uitofp (F := Ideal) FTy.f32 (IntOp.cmpi CmpIPredicate.eq (IntOp.addi (BitVec.ofNat 32 k.val) 0#32) (BitVec.ofNat 32 h.val)) = _
  show (((IntOp.cmpi CmpIPredicate.eq (IntOp.addi (BitVec.ofNat 32 k.val) 0#32) (BitVec.ofNat 32 h.val)).toNat : ℝ) : EReal) = _
  have e : (IntOp.cmpi CmpIPredicate.eq (IntOp.addi (BitVec.ofNat 32 k.val) 0#32) (BitVec.ofNat 32 h.val)).toNat
      = if k = h then 1 else 0 := by revert k h; decide
  rw [e]
  split <;> simp

/-- The layout at an index: the vector's entry in the head's own rows, times zero elsewhere. -/
theorem spread_apply (a : Vec Ideal S8x8 .f32) (k : Fin 64) (h : Fin 8) :
    spread a (ix2 k h) = a (ix2 (headOf k) ⟨k.val % 8, by omega⟩) * (if headOf k = h then (1 : EReal) else 0) := by
  rw [← eye_apply]
  pointwise [spread, eye]

/-- The first half at an index. -/
theorem sourceHalf_apply (a : Vec Ideal S8x16x1 .f32) (h d : Fin 8) :
    sourceHalf a (ix2 h d) = a (ix3 h ⟨d.val, by omega⟩ 0) := by
  pointwise [sourceHalf]

/-- The second half at an index. -/
theorem targetHalf_apply (a : Vec Ideal S8x16x1 .f32) (h d : Fin 8) :
    targetHalf a (ix2 h d) = a (ix3 h ⟨8 + d.val, by omega⟩ 0) := by
  pointwise [targetHalf]

/-- The weights side by side, at an index. -/
theorem sideBySide_apply (w : Vec Ideal S8x128x8 .f32) (k : Fin 128) (q : Fin 64) :
    sideBySide w (ix2 k q) = w (ix3 (headOf q) k ⟨q.val % 8, by omega⟩) := by
  pointwise [sideBySide]

/-- A sum against one column of the layout is the sum over the head's own rows. -/
theorem sum_spread (f : Fin 64 → EReal) (a : Vec Ideal S8x8 .f32) (h : Fin 8) :
    ∑ k, f k * spread a (ix2 k h) = ∑ d : Fin 8, f ⟨8 * h.val + d.val, by omega⟩ * a (ix2 h d) := by
  have e : ∀ p : Fin 8 × Fin 8, f (finProdFinEquiv p) * spread a (ix2 (finProdFinEquiv p) h)
      = if p.1 = h then f ⟨8 * h.val + p.2.val, by omega⟩ * a (ix2 h p.2) else 0 := by
    rintro ⟨i, d⟩
    have hi : headOf (finProdFinEquiv (i, d)) = i := Fin.ext (by show (d.val + 8 * i.val) / 8 = i.val; omega)
    have hd : (⟨(finProdFinEquiv (i, d)).val % 8, by omega⟩ : Fin 8) = d :=
      Fin.ext (by show (d.val + 8 * i.val) % 8 = d.val; omega)
    rw [spread_apply, hi, hd]
    by_cases hh : i = h
    · subst hh
      rw [if_pos rfl, if_pos rfl, mul_one]
      exact congrArg (fun z => f z * _) (Fin.ext (by show d.val + 8 * i.val = 8 * i.val + d.val; omega))
    · rw [if_neg hh, if_neg hh, mul_zero, mul_zero]
  rw [← Equiv.sum_comp (finProdFinEquiv (m := 8) (n := 8)), Fintype.sum_congr _ _ e, Fintype.sum_prod_type,
    Finset.sum_comm]
  refine Finset.sum_congr rfl fun d _ => ?_
  rw [Finset.sum_ite_eq' Finset.univ h fun _ => _]
  exact if_pos (Finset.mem_univ h)

end Cert.Gat
end
-- ==== Proof.Regions.lean ====
module
public import proofs.«01_k».proof.Proof.Pre

/-! The arrays the two kernels leave, as functions of what they find on entry. -/

@[expose] public section
set_option maxRecDepth 16384
noncomputable section
namespace Cert.Gat
open Cert.KernelIdeal Cert.KernelIdeal.Gen Idealize.ShloMosaic Idealize.ShloMosaic.TcCoe Idealize.SL.Sem
open Idealize.ShloMosaic.StableHlo
variable (V : (c : Dev nD) → (b : Ref sig .tc) → Buf (Elt Ideal) ((c : Thread nD τ).loc b))

/-! ## The projection kernel: one grid point, every block a whole array -/

/-- The zero offset, written out. -/
theorem hz : (![0, 0] : Fin 2 → Nat) = fun _ => 0 := funext fun a => by fin_cases a <;> rfl

/-- A rectangle that starts at the origin and has the array's own extents holds every index. -/
theorem mem_full {A B : Nat} {off size : Fin 2 → Nat} {inb} (h₀ : off 0 = 0) (h₁ : off 1 = 0) (s₀ : size 0 = A)
    (s₁ : size 1 = B) (i : Shape.Idx ⟨2, ![A, B]⟩) : i ∈ (Rect.unit (s := ⟨2, ![A, B]⟩) off size inb).set := by
  have b₀ : (i 0).val < A := (i 0).isLt
  have b₁ : (i 1).val < B := (i 1).isLt
  exact Rect.mem_set_unit.2 (Fin.forall_fin_two.2 ⟨⟨by omega, by omega⟩, ⟨by omega, by omega⟩⟩)

/-- The projection kernel's one point reads the whole of the features, -/
theorem entry0_0 (c : Dev nD) : iblk0 V c 0 t0_0 = V c main_arg0 := by
  funext i
  exact read_eq (A := 4096) (B := 128) (V c main_arg0) (by show 0 * 4096 + 1 * (i 0).val = _; omega)
    (by show 0 * 128 + 1 * (i 1).val = _; omega)

/-- the whole of the weights side by side, -/
theorem entry0_1 (c : Dev nD) : iblk0 V c 1 t0_0 = V c main_call0_v1 := by
  funext i
  exact read_eq (A := 128) (B := 64) (V c main_call0_v1) (by show 0 * 128 + 1 * (i 0).val = _; omega)
    (by show 0 * 64 + 1 * (i 1).val = _; omega)

/-- the whole of the sources' vectors -/
theorem entry0_2 (c : Dev nD) : iblk0 V c 2 t0_0 = V c main_call0_v17 := by
  funext i
  exact read_eq (A := 64) (B := 8) (V c main_call0_v17) (by show 0 * 64 + 1 * (i 0).val = _; omega)
    (by show 0 * 8 + 1 * (i 1).val = _; omega)

/-- and the whole of the targets'. -/
theorem entry0_3 (c : Dev nD) : iblk0 V c 3 t0_0 = V c main_call0_v23 := by
  funext i
  exact read_eq (A := 64) (B := 8) (V c main_call0_v23) (by show 0 * 64 + 1 * (i 0).val = _; omega)
    (by show 0 * 8 + 1 * (i 1).val = _; omega)

/-- It writes the whole of the projection, -/
theorem exit0_4 (X : Vec Ideal S4096x64 .f32) : ((cfg0.win 4).blk t0_0).view.read (Elt Ideal) X = X := by
  funext i
  exact read_eq (A := 4096) (B := 64) X (by show 0 * 4096 + 1 * (i 0).val = _; omega)
    (by show 0 * 64 + 1 * (i 1).val = _; omega)

/-- the whole of the sources' parts -/
theorem exit0_5 (X : Vec Ideal S4096x8 .f32) : ((cfg0.win 5).blk t0_0).view.read (Elt Ideal) X = X := by
  funext i
  exact read_eq (A := 4096) (B := 8) X (by show 0 * 4096 + 1 * (i 0).val = _; omega)
    (by show 0 * 8 + 1 * (i 1).val = _; omega)

/-- and the whole of the targets' parts. -/
theorem exit0_6 (X : Vec Ideal S8x4096 .f32) : ((cfg0.win 6).blk t0_0).view.read (Elt Ideal) X = X := by
  funext i
  exact read_eq (A := 8) (B := 4096) X (by show 0 * 8 + 1 * (i 0).val = _; omega)
    (by show 0 * 4096 + 1 * (i 1).val = _; omega)

/-- The projection's array. -/
theorem final_proj (c : Dev nD) : (dat0 V c).arrAt 4 cfg0.N = k0_pay1 (V c main_arg0) (V c main_call0_v1) := by
  refine (dat0 V c).arrAt_eq_of_cover 4 _ (fun t _ => ?_) fun i => ⟨t0_0, flush0_4 _, ?_⟩
  · rcases fin_N0 t with rfl
    show (cfg0.win 4).cut (grid0.coords t0_0) ((dat0 V c).after 4 t0_0) = _
    rw [after0_4, entry0_0, entry0_1, exit0_4]
    unfold out0_4
    rw [View.canon_unit_zero hz, View.ld_unit_zero hz, View.ld_unit_zero hz]
    rfl
  · show i ∈ ((View.whole main_call0_v24_0).slice (win0_4.rect t0_0)).set
    rw [View.set_slice_whole]
    exact mem_full (A := 4096) (B := 64) rfl rfl rfl rfl i

/-- The array of the sources' parts. -/
theorem final_sources (c : Dev nD) : (dat0 V c).arrAt 5 cfg0.N
    = k0_pay2 (V c main_arg0) (V c main_call0_v1) (V c main_call0_v17) := by
  refine (dat0 V c).arrAt_eq_of_cover 5 _ (fun t _ => ?_) fun i => ⟨t0_0, flush0_5 _, ?_⟩
  · rcases fin_N0 t with rfl
    show (cfg0.win 5).cut (grid0.coords t0_0) ((dat0 V c).after 5 t0_0) = _
    rw [after0_5, entry0_0, entry0_1, entry0_2, exit0_5]
    unfold out0_5
    rw [View.canon_unit_zero hz, View.ld_unit_zero hz, View.ld_unit_zero hz, View.ld_unit_zero hz]
    rfl
  · show i ∈ ((View.whole main_call0_v24_1).slice (win0_5.rect t0_0)).set
    rw [View.set_slice_whole]
    exact mem_full (A := 4096) (B := 8) rfl rfl rfl rfl i

/-- The array of the targets' parts, one row per head. -/
theorem final_targets (c : Dev nD) : (dat0 V c).arrAt 6 cfg0.N
    = k0_pay3 (V c main_arg0) (V c main_call0_v1) (V c main_call0_v23) := by
  refine (dat0 V c).arrAt_eq_of_cover 6 _ (fun t _ => ?_) fun i => ⟨t0_0, flush0_6 _, ?_⟩
  · rcases fin_N0 t with rfl
    show (cfg0.win 6).cut (grid0.coords t0_0) ((dat0 V c).after 6 t0_0) = _
    rw [after0_6, entry0_0, entry0_1, entry0_3, exit0_6]
    unfold out0_6
    rw [View.canon_unit_zero hz, View.ld_unit_zero hz, View.ld_unit_zero hz, View.ld_unit_zero hz]
    rfl
  · show i ∈ ((View.whole main_call0_v24_2).slice (win0_6.rect t0_0)).set
    rw [View.set_slice_whole]
    exact mem_full (A := 8) (B := 4096) rfl rfl rfl rfl i

/-- The projection at an index. -/
theorem proj_at (x : Vec Ideal S4096x128 .f32) (w : Vec Ideal S128x64 .f32) (i : Fin 4096) (q : Fin 64) :
    k0_pay1 x w (ix2 i q) = ∑ k, x (ix2 i k) * w (ix2 k q) := by
  pointwise [k0_pay1]

/-- A source's part at an index, from the projection. -/
theorem sources_at (x : Vec Ideal S4096x128 .f32) (w : Vec Ideal S128x64 .f32) (a : Vec Ideal S64x8 .f32)
    (i : Fin 4096) (h : Fin 8) : k0_pay2 x w a (ix2 i h) = ∑ k, k0_pay1 x w (ix2 i k) * a (ix2 k h) := by
  pointwise [k0_pay2]

/-- A target's part at an index, from the projection. -/
theorem targets_at (x : Vec Ideal S4096x128 .f32) (w : Vec Ideal S128x64 .f32) (a : Vec Ideal S64x8 .f32)
    (h : Fin 8) (i : Fin 4096) : k0_pay3 x w a (ix2 h i) = ∑ k, a (ix2 k h) * k0_pay1 x w (ix2 i k) := by
  pointwise [k0_pay3]

/-! ## The attention kernel: sixteen blocks of 256 rows -/

/-- The array's row that is row `r` of block `t`. -/
abbrev rowOf (t : Fin cfg1.N) (r : Fin 256) : Fin 4096 :=
  ⟨256 * t.val + r.val, by have h : t.val < 16 := N_1 ▸ t.isLt; omega⟩

/-- Which block of the adjacency matrix point `t` reads, -/
theorem index1_0 : ∀ t : Fin grid1.N, win1_0.index t 0 = t.val ∧ win1_0.index t 1 = 0 := by decide +kernel
/-- of the link weights, -/
theorem index1_1 : ∀ t : Fin grid1.N, win1_1.index t 0 = t.val ∧ win1_1.index t 1 = 0 := by decide +kernel
/-- of the sources' parts, -/
theorem index1_2 : ∀ t : Fin grid1.N, win1_2.index t 0 = t.val ∧ win1_2.index t 1 = 0 := by decide +kernel
/-- of the targets' parts -/
theorem index1_3 : ∀ t : Fin grid1.N, win1_3.index t 0 = 0 ∧ win1_3.index t 1 = 0 := by decide +kernel
/-- and of the projection, -/
theorem index1_4 : ∀ t : Fin grid1.N, win1_4.index t 0 = 0 ∧ win1_4.index t 1 = 0 := by decide +kernel
/-- and which block of the result it writes. -/
theorem index1_5 : ∀ t : Fin grid1.N, win1_5.index t 0 = t.val ∧ win1_5.index t 1 = 0 := by decide +kernel

/-- Point `t`'s block of the adjacency matrix at an index, -/
theorem entry1_0 (c : Dev nD) (t : Fin cfg1.N) (r : Fin 256) (k : Fin 4096) :
    (iblk1 V c 0 t : Vec Ideal S256x4096 .f32) (ix2 r k) = V c main_arg2 (ix2 (rowOf t r) k) :=
  read_eq (A := 4096) (B := 4096) (V c main_arg2)
    (by show win1_0.index t 0 * 256 + 1 * r.val = 256 * t.val + r.val; rw [(index1_0 t).1]; omega)
    (by show win1_0.index t 1 * 4096 + 1 * k.val = k.val; rw [(index1_0 t).2]; omega)

/-- of the link weights, -/
theorem entry1_1 (c : Dev nD) (t : Fin cfg1.N) (r : Fin 256) (k : Fin 4096) :
    (iblk1 V c 1 t : Vec Ideal S256x4096 .f32) (ix2 r k) = V c main_arg3 (ix2 (rowOf t r) k) :=
  read_eq (A := 4096) (B := 4096) (V c main_arg3)
    (by show win1_1.index t 0 * 256 + 1 * r.val = 256 * t.val + r.val; rw [(index1_1 t).1]; omega)
    (by show win1_1.index t 1 * 4096 + 1 * k.val = k.val; rw [(index1_1 t).2]; omega)

/-- of the sources' parts, -/
theorem entry1_2 (c : Dev nD) (t : Fin cfg1.N) (r : Fin 256) (h : Fin 8) :
    (iblk1 V c 2 t : Vec Ideal S256x8 .f32) (ix2 r h) = V c main_call0_v24_1 (ix2 (rowOf t r) h) :=
  read_eq (A := 4096) (B := 8) (V c main_call0_v24_1)
    (by show win1_2.index t 0 * 256 + 1 * r.val = 256 * t.val + r.val; rw [(index1_2 t).1]; omega)
    (by show win1_2.index t 1 * 8 + 1 * h.val = h.val; rw [(index1_2 t).2]; omega)

/-- of the targets' parts -/
theorem entry1_3 (c : Dev nD) (t : Fin cfg1.N) (h : Fin 8) (k : Fin 4096) :
    (iblk1 V c 3 t : Vec Ideal S8x4096 .f32) (ix2 h k) = V c main_call0_v24_2 (ix2 h k) :=
  read_eq (A := 8) (B := 4096) (V c main_call0_v24_2)
    (by show win1_3.index t 0 * 8 + 1 * h.val = h.val; rw [(index1_3 t).1]; omega)
    (by show win1_3.index t 1 * 4096 + 1 * k.val = k.val; rw [(index1_3 t).2]; omega)

/-- and of the projection. -/
theorem entry1_4 (c : Dev nD) (t : Fin cfg1.N) (k : Fin 4096) (q : Fin 64) :
    (iblk1 V c 4 t : Vec Ideal S4096x64 .f32) (ix2 k q) = V c main_call0_v24_0 (ix2 k q) :=
  read_eq (A := 4096) (B := 64) (V c main_call0_v24_0)
    (by show win1_4.index t 0 * 4096 + 1 * k.val = k.val; rw [(index1_4 t).1]; omega)
    (by show win1_4.index t 1 * 64 + 1 * q.val = q.val; rw [(index1_4 t).2]; omega)

/-- The attention layer as one array of the entry contents. -/
def attention (c : Dev nD) : Vec Ideal S4096x64 .f32 := fun i =>
  headRow (fun k => V c main_arg2 (ix2 (i 0) k)) (fun k => V c main_arg3 (ix2 (i 0) k))
    (V c main_call0_v24_1 (ix2 (i 0) (headOf (i 1)))) (fun k => V c main_call0_v24_2 (ix2 (headOf (i 1)) k))
    (fun k => V c main_call0_v24_0 (ix2 k (i 1)))

/-- Block `t` of an array of the result's shape, at an index. -/
theorem exit1_5 (X : Vec Ideal S4096x64 .f32) (t : Fin cfg1.N) (r : Fin 256) (q : Fin 64) :
    (((cfg1.win 5).blk t).view.read (Elt Ideal) X : Vec Ideal S256x64 .f32) (ix2 r q) = X (ix2 (rowOf t r) q) :=
  read_eq (A := 4096) (B := 64) X
    (by show win1_5.index t 0 * 256 + 1 * r.val = 256 * t.val + r.val; rw [(index1_5 t).1]; omega)
    (by show win1_5.index t 1 * 64 + 1 * q.val = q.val; rw [(index1_5 t).2]; omega)

/-- What point `t` writes back is block `t` of the attention layer. -/
theorem flushed1_5 (c : Dev nD) (t : Fin cfg1.N) :
    (dat1 V c).flushed 5 t = ((cfg1.win 5).blk t).view.read (Elt Ideal) (attention V c) := by
  show (cfg1.win 5).cut (grid1.coords t) ((dat1 V c).after 5 t) = _
  rw [after1_5]
  funext i
  obtain ⟨r, q, rfl⟩ : ∃ (r : Fin 256) (q : Fin 64), i = ix2 r q := ⟨_, _, eq_ix2 i⟩
  refine Eq.trans ?_ (exit1_5 (attention V c) t r q).symm
  refine (out_apply (iblk1 V c 0 t) (iblk1 V c 1 t) (iblk1 V c 2 t) (iblk1 V c 3 t) (iblk1 V c 4 t) r q).trans ?_
  simp only [entry1_0, entry1_1, entry1_2, entry1_3, entry1_4]
  rfl

/-- The attention layer's array. -/
theorem final_attention (c : Dev nD) : (dat1 V c).arrAt 5 cfg1.N = attention V c := by
  refine (dat1 V c).arrAt_eq_of_cover 5 _ (fun t _ => flushed1_5 V c t) fun i => ?_
  have h₀ : (i 0).val < 4096 := (i 0).isLt
  have h₁ : (i 1).val < 64 := (i 1).isLt
  have hN : cfg1.N = 16 := N_1
  have ht : (i 0).val / 256 < cfg1.N := by omega
  refine ⟨⟨(i 0).val / 256, ht⟩, flush1_5 _, ?_⟩
  show i ∈ ((View.whole main_v0).slice (win1_5.rect ⟨(i 0).val / 256, ht⟩)).set
  rw [View.set_slice_whole]
  refine Rect.mem_set_unit.2 (Fin.forall_fin_two.2 ⟨?_, ?_⟩)
  · show win1_5.index _ 0 * 256 ≤ (i 0).val ∧ (i 0).val < win1_5.index _ 0 * 256 + 256
    rw [(index1_5 _).1]
    dsimp only
    omega
  · show win1_5.index _ 1 * 64 ≤ (i 1).val ∧ (i 1).val < win1_5.index _ 1 * 64 + 64
    rw [(index1_5 _).2]
    omega

end Cert.Gat
end
-- ==== Proof.RefHead.lean ====
module
public import proofs.«01_k».proof.Proof.Head
public import proofs.«01_k».proof.Proof.Gen.ReferenceIdeal.Run
public import Idealize.ShloMosaic.Lib.TotalOrder

/-! What the reference computes for one head, at an index. -/

@[expose] public section
set_option maxRecDepth 16384
noncomputable section
namespace Cert.Gat
open Cert.ReferenceIdeal Cert.ReferenceIdeal.Gen Cert.ReferenceIdeal.Value
open Idealize.ShloMosaic Idealize.ShloMosaic.TcCoe Idealize.SL.Sem Idealize.ShloMosaic.StableHlo

/-- Head `h`'s weight matrix. -/
def headWeights (w : FVec Ideal S8x128x8 .f32) (h : Fin 8) : FVec Ideal S128x8 .f32 :=
  shapeCast S128x8 (extractStridedSlice S1x128x8 ![h.val, 0, 0] w (by revert h; decide)) shapeCasts_S1x128x8_S128x8

/-- Head `h`'s attention vector. -/
def headVector (a : FVec Ideal S8x16x1 .f32) (h : Fin 8) : FVec Ideal S16x1 .f32 :=
  shapeCast S16x1 (extractStridedSlice S1x16x1 ![h.val, 0, 0] a (by revert h; decide)) shapeCasts_S1x16x1_S16x1

/-- One head's projection. -/
def refProj (x : FVec Ideal S4096x128 .f32) (w : FVec Ideal S128x8 .f32) : FVec Ideal S4096x8 .f32 :=
  Host.dotGeneral dot_S4096x128_S128x8_S4096x8_1_0_0_1_n_n none x w

/-- The sum of the source's and the target's part, for every pair. -/
def refSum (p : FVec Ideal S4096x8 .f32) (a : FVec Ideal S16x1 .f32) : FVec Ideal S4096x4096 .f32 :=
  addf (broadcastInDim S4096x4096 ![0, 1] bcast_S4096x1_S4096x4096_0_1
      (Host.dotGeneral (F := Ideal) (φ₁ := .f32) (φ₂ := .f32) dot_S4096x8_S8x1_S4096x1_1_0_0_1_n_n none p (extractStridedSlice S8x1 ![0, 0] a slices_S16x1_S8x1_0_0)))
    (broadcastInDim S4096x4096 ![0, 1] bcast_S1x4096_S4096x4096_0_1 (transpose S1x4096 [1, 0]
      (Host.dotGeneral (F := Ideal) (φ₁ := .f32) (φ₂ := .f32) dot_S4096x8_S8x1_S4096x1_1_0_0_1_n_n none p (extractStridedSlice S8x1 ![8, 0] a slices_S16x1_S8x1_8_0))
      transposes_S4096x1_S1x4096_1_0))

/-- The masked scores. -/
def refScore (s adj lw : FVec Ideal S4096x4096 .f32) : FVec Ideal S4096x4096 .f32 :=
  select (cmpf .ogt adj (broadcastInDim S4096x4096 ![] bcast_S_S4096x4096 (constant S_ .f32 0x00000000#32)))
    (mulf (select (cmpf .oge s (broadcastInDim S4096x4096 ![] bcast_S_S4096x4096 (constant S_ .f32 0x00000000#32))) s
      (mulf (broadcastInDim S4096x4096 ![] bcast_S_S4096x4096 (id (constant S_ .f32 0x3E4CCCCD#32))) s)) lw)
    (broadcastInDim S4096x4096 ![] bcast_S_S4096x4096 (constant S_ .f32 0xD9FFCB9E#32))

/-- The greatest score of each row. -/
def rowMax (s : FVec Ideal S4096x4096 .f32) : FVec Ideal S4096 .f32 :=
  Host.reduce FloatOps.maximumf s (constant S_ .f32 0xFF800000#32) reducesTo_S4096x4096_S4096_d1 h_S_

/-- The exponentials of `s` less each row's entry of `b`, that entry first raised to the least value. -/
def expLess (s : FVec Ideal S4096x4096 .f32) (b : FVec Ideal S4096 .f32) : FVec Ideal S4096x4096 .f32 :=
  Host.exp (subf s (broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32)) b))))

/-- The exponentials of the scores, each row's greatest subtracted first. -/
def refExp (s : FVec Ideal S4096x4096 .f32) : FVec Ideal S4096x4096 .f32 := expLess s (rowMax s)

/-- The normalized average. -/
def refAverage (e : FVec Ideal S4096x4096 .f32) (p : FVec Ideal S4096x8 .f32) : FVec Ideal S4096x8 .f32 :=
  Host.dotGeneral dot_S4096x4096_S4096x8_S4096x8_1_0_0_1_n_n none
    (Host.divf e (broadcastInDim S4096x4096 ![0, 1] bcast_S4096x1_S4096x4096_0_1 (broadcastInDim S4096x1 ![0] bcast_S4096_S4096x1_0
      (Host.reduceAdd e (constant S_ .f32 0x00000000#32) reducesTo_S4096x4096_S4096_d1 h_S_)))) p

/-- The exponential linear unit, as the reference writes it. -/
def refElu (o : FVec Ideal S4096x8 .f32) : FVec Ideal S4096x8 .f32 :=
  select (cmpf .ogt o (broadcastInDim S4096x8 ![] bcast_S_S4096x8 (constant S_ .f32 0x00000000#32))) o
    (mulf (broadcastInDim S4096x8 ![] bcast_S_S4096x8 (constant S_ .f32 0x3F800000#32))
      (Host.expm1 (select (cmpf .ogt o (broadcastInDim S4096x8 ![] bcast_S_S4096x8 (constant S_ .f32 0x00000000#32)))
        (broadcastInDim S4096x8 ![] bcast_S_S4096x8 (id (constant S_ .f32 0x00000000#32))) o)))

/-- One head of the reference, from its projection and its attention vector. -/
def refHead (p : FVec Ideal S4096x8 .f32) (a : FVec Ideal S16x1 .f32) (adj lw : FVec Ideal S4096x4096 .f32) : FVec Ideal S4096x8 .f32 :=
  refElu (refAverage (refExp (refScore (refSum p a) adj lw)) p)

/-- A head's weight matrix at an index. -/
theorem headWeights_apply (w : FVec Ideal S8x128x8 .f32) (h : Fin 8) (k : Fin 128) (d : Fin 8) :
    headWeights w h (ix2 k d) = w (ix3 h k d) := by
  pointwise [headWeights]

/-- A head's attention vector at an index. -/
theorem headVector_apply (a : FVec Ideal S8x16x1 .f32) (h : Fin 8) (k : Fin 16) :
    headVector a h (ix2 k 0) = a (ix3 h k 0) := by
  pointwise [headVector]

/-- A head's projection at an index. -/
theorem refProj_apply (x : FVec Ideal S4096x128 .f32) (w : FVec Ideal S128x8 .f32) (i : Fin 4096) (d : Fin 8) :
    refProj x w (ix2 i d) = ∑ k, x (ix2 i k) * w (ix2 k d) := by
  pointwise [refProj]

/-- The sum of the two parts for one pair. -/
theorem refSum_apply (p : FVec Ideal S4096x8 .f32) (a : FVec Ideal S16x1 .f32) (i j : Fin 4096) :
    refSum p a (ix2 i j) = (∑ d : Fin 8, p (ix2 i d) * a (ix2 ⟨d.val, by omega⟩ 0))
      + ∑ d : Fin 8, p (ix2 j d) * a (ix2 ⟨8 + d.val, by omega⟩ 0) := by
  pointwise [refSum]

/-- The slope of the leaky rectifier is not negative -/
theorem slope_nonneg : 0 ≤ Ideal.ofBits FTy.f32 0x3E4CCCCD#32 := by
  rw [← Ideal.ofBits_zero_f32]
  exact ((TotalOrder.f32_lt_iff (by decide) (by decide) (by decide)).mp (by decide)).le

/-- and at most one. -/
theorem slope_le_one : Ideal.ofBits FTy.f32 0x3E4CCCCD#32 ≤ 1 := by
  rw [← Ideal.ofBits_one_f32]
  exact ((TotalOrder.f32_lt_iff (by decide) (by decide) (by decide)).mp (by decide)).le

/-- With a slope between zero and one the leaky rectifier by cases is the maximum of its two branches. -/
theorem leaky_eq_max {c : EReal} (h₀ : 0 ≤ c) (h₁ : c ≤ 1) (s : EReal) : (if 0 ≤ s then s else c * s) = max s (c * s) := by
  have key : ∀ t : EReal, 0 ≤ t → c * t ≤ t := fun t ht => by
    calc c * t ≤ 1 * t := mul_le_mul_of_nonneg_right h₁ ht
      _ = t := one_mul t
  by_cases hs : 0 ≤ s
  · rw [if_pos hs, max_eq_left (key s hs)]
  · rw [if_neg hs, max_eq_right]
    have := key (-s) (EReal.neg_nonneg.2 (not_le.1 hs).le)
    rw [mul_neg] at this
    exact EReal.neg_le_neg_iff.1 this

/-- The reference's masked score is the shared formula. -/
theorem refScore_apply (s adj lw : FVec Ideal S4096x4096 .f32) (i j : Fin 4096) :
    refScore s adj lw (ix2 i j) = score (adj (ix2 i j)) (lw (ix2 i j)) (s (ix2 i j)) := by
  have e := leaky_eq_max slope_nonneg slope_le_one (s (ix2 i j))
  pointwise [refScore]
  rw [score, ← e]
  rfl

/-- A row's greatest score as a fold. -/
theorem rowMax_apply (s : FVec Ideal S4096x4096 .f32) (i : Fin 4096) :
    rowMax s (ix1 i) = Finset.fold max (Ideal.ofBits FTy.f32 0xFF800000#32) (fun k => s (ix2 i k)) Finset.univ := by
  pointwise [rowMax]

/-- The exponentials at an index, for any row entries. -/
theorem expLess_apply (s : FVec Ideal S4096x4096 .f32) (b : FVec Ideal S4096 .f32) (i j : Fin 4096) :
    expLess s b (ix2 i j) = Ideal.exp (s (ix2 i j) - max (Ideal.ofBits FTy.f32 0xFF800000#32) (b (ix1 i))) := by
  pointwise [expLess]

/-- The reference's exponentials are the shared formula: raising the greatest score to the value its fold starts from changes nothing. -/
theorem refExp_apply (s : FVec Ideal S4096x4096 .f32) (i j : Fin 4096) :
    refExp s (ix2 i j) = unnormalized (fun k => s (ix2 i k)) j := by
  rw [refExp, expLess_apply, rowMax_apply, unnormalized, max_eq_right ((Finset.le_fold_max _).2 (Or.inl le_rfl))]

/-- The normalized average at an index. -/
theorem refAverage_apply (e : FVec Ideal S4096x4096 .f32) (p : FVec Ideal S4096x8 .f32) (i : Fin 4096) (d : Fin 8) :
    refAverage e p (ix2 i d) = ∑ k, Ideal.div (e (ix2 i k)) (∑ k', e (ix2 i k')) * p (ix2 k d) := by
  pointwise [refAverage]

/-- The reference's exponential linear unit is the shared formula. -/
theorem refElu_apply (o : FVec Ideal S4096x8 .f32) (i : Fin 4096) (d : Fin 8) :
    refElu o (ix2 i d) = elu (o (ix2 i d)) := by
  pointwise [refElu]
  rw [elu]
  split <;> rfl

/-- One head of the reference at an index. -/
theorem refHead_apply (p : FVec Ideal S4096x8 .f32) (a : FVec Ideal S16x1 .f32) (adj lw : FVec Ideal S4096x4096 .f32)
    (i : Fin 4096) (d : Fin 8) :
    refHead p a adj lw (ix2 i d)
      = headRow (fun k => adj (ix2 i k)) (fun k => lw (ix2 i k)) (∑ d : Fin 8, p (ix2 i d) * a (ix2 ⟨d.val, by omega⟩ 0))
          (fun k => ∑ d : Fin 8, p (ix2 k d) * a (ix2 ⟨8 + d.val, by omega⟩ 0)) (fun k => p (ix2 k d)) := by
  simp only [refHead, headRow, attend, refElu_apply, refAverage_apply, refExp_apply, refScore_apply, refSum_apply]

/-- Head `h` of the reference on the arguments. -/
def refPart (x : FVec Ideal S4096x128 .f32) (adj lw : FVec Ideal S4096x4096 .f32) (w : FVec Ideal S8x128x8 .f32)
    (a : FVec Ideal S8x16x1 .f32) (h : Fin 8) : FVec Ideal S4096x8 .f32 :=
  refHead (refProj x (headWeights w h)) (headVector a h) adj lw

end Cert.Gat
end
-- ==== Proof.RefArray.lean ====
module
public import proofs.«01_k».proof.Proof.RefHead
public import Idealize.ShloMosaic.Lib.Pipeline.Value

/-! The reference's attention layer: eight heads side by side, read at an index. -/

@[expose] public section
set_option maxRecDepth 16384
noncomputable section
namespace Cert.Gat
open Cert.ReferenceIdeal Cert.ReferenceIdeal.Gen Cert.ReferenceIdeal.Value
open Idealize.ShloMosaic Idealize.ShloMosaic.TcCoe Idealize.SL.Sem Idealize.ShloMosaic.StableHlo

/-- The heads' averages as the reference names them. -/
def averages (V : Valuation τ sig (Elt Ideal)) : Fin 8 → FVec Ideal S4096x8 .f32 :=
  ![res_main_v29 V, res_main_v60 V, res_main_v91 V, res_main_v122 V, res_main_v153 V, res_main_v184 V, res_main_v215 V,
    res_main_v246 V]

/-- Each is the head's part on the arguments. -/
theorem averages_eq (V : Valuation τ sig (Elt Ideal)) (h : Fin 8) :
    refElu (averages V h) = refPart (V (Proc.devRef .tc main_arg0)) (V (Proc.devRef .tc main_arg2))
      (V (Proc.devRef .tc main_arg3)) (V (Proc.devRef .tc main_arg4)) (V (Proc.devRef .tc main_arg5)) h := by
  fin_cases h <;> rfl

/-- The reference's concatenation is its eight heads in order. -/
theorem concat_eq (V : Valuation τ sig (Elt Ideal)) :
    res_main_v248 V = concatenate S4096x64 1 (List.ofFn fun h : Fin 8 => ⟨S4096x8, refElu (averages V h)⟩)
      concatenates_S4096x8_S4096x8_S4096x8_S4096x8_S4096x8_S4096x8_S4096x8_S4096x8_S4096x64_d1 := rfl

/-- Its entry at row `i` and column `q` is the column's head there. -/
theorem concat_apply (V : Valuation τ sig (Elt Ideal)) (i : Fin 4096) (q : Fin 64) :
    (res_main_v248 V : FVec Ideal S4096x64 .f32) (ix2 i q)
      = refPart (V (Proc.devRef .tc main_arg0)) (V (Proc.devRef .tc main_arg2)) (V (Proc.devRef .tc main_arg3))
          (V (Proc.devRef .tc main_arg4)) (V (Proc.devRef .tc main_arg5)) (headOf q) (ix2 i ⟨q.val % 8, by omega⟩) := by
  rw [concat_eq, ← averages_eq]
  refine concatenate_ofFn_apply (t := S4096x64) (s₁ := S4096x8) (1 : Fin 2) (fun h => refElu (averages V h)) _ rfl 8 rfl (ix2 i q) (headOf q) rfl
    (ix2 i ⟨q.val % 8, by omega⟩) rfl ?_
  intro b hb
  fin_cases b
  · rfl
  · exact absurd rfl hb

end Cert.Gat
end
-- ==== Proof.Equation.lean ====
module
public import proofs.«01_k».proof.Proof.Regions
public import proofs.«01_k».proof.Proof.RefArray

/-! The kernels' attention layer is the reference's. -/

@[expose] public section
set_option maxRecDepth 16384
noncomputable section
namespace Cert.Gat
open Cert.KernelIdeal Cert.KernelIdeal.Gen Idealize.ShloMosaic Idealize.ShloMosaic.TcCoe Idealize.SL.Sem
open Idealize.ShloMosaic.StableHlo

/-- The kernel's projection at a column is the reference's projection of the column's head. -/
theorem proj_eq (x : Vec Ideal S4096x128 .f32) (w : Vec Ideal S8x128x8 .f32) (i : Fin 4096) (q : Fin 64) :
    k0_pay1 x (sideBySide w) (ix2 i q) = refProj x (headWeights w (headOf q)) (ix2 i ⟨q.val % 8, by omega⟩) := by
  rw [proj_at, refProj_apply]
  refine Finset.sum_congr rfl fun k _ => ?_
  rw [sideBySide_apply, headWeights_apply]

/-- The same at the column that is `d` of head `h`. -/
theorem proj_eq_block (x : Vec Ideal S4096x128 .f32) (w : Vec Ideal S8x128x8 .f32) (i : Fin 4096) (h d : Fin 8) :
    k0_pay1 x (sideBySide w) (ix2 i ⟨8 * h.val + d.val, by omega⟩) = refProj x (headWeights w h) (ix2 i d) := by
  have e₁ : headOf ⟨8 * h.val + d.val, by omega⟩ = h := Fin.ext (by show (8 * h.val + d.val) / 8 = h.val; omega)
  have e₂ : (⟨(8 * h.val + d.val) % 8, by omega⟩ : Fin 8) = d := Fin.ext (by show (8 * h.val + d.val) % 8 = d.val; omega)
  rw [proj_eq, e₁, e₂]

/-- A source's part of head `h`'s score. -/
theorem sources_eq (x : Vec Ideal S4096x128 .f32) (w : Vec Ideal S8x128x8 .f32) (a : Vec Ideal S8x16x1 .f32)
    (i : Fin 4096) (h : Fin 8) :
    k0_pay2 x (sideBySide w) (spread (sourceHalf a)) (ix2 i h)
      = ∑ d : Fin 8, refProj x (headWeights w h) (ix2 i d) * headVector a h (ix2 ⟨d.val, by omega⟩ 0) := by
  rw [sources_at, sum_spread]
  refine Finset.sum_congr rfl fun d _ => ?_
  rw [proj_eq_block, sourceHalf_apply, headVector_apply]

/-- A target's part of head `h`'s score. -/
theorem targets_eq (x : Vec Ideal S4096x128 .f32) (w : Vec Ideal S8x128x8 .f32) (a : Vec Ideal S8x16x1 .f32)
    (i : Fin 4096) (h : Fin 8) :
    k0_pay3 x (sideBySide w) (spread (targetHalf a)) (ix2 h i)
      = ∑ d : Fin 8, refProj x (headWeights w h) (ix2 i d) * headVector a h (ix2 ⟨8 + d.val, by omega⟩ 0) := by
  rw [targets_at, Finset.sum_congr rfl fun k _ => mul_comm _ _, sum_spread]
  refine Finset.sum_congr rfl fun d _ => ?_
  rw [proj_eq_block, targetHalf_apply, headVector_apply]

variable (m : (ℓ : Loc nD τ sig) → Buf (Elt Ideal) ℓ) (ρ : Dev nD → PrngReg) (c : Dev nD)

/-- What the attention kernel finds in the projection's array, -/
theorem find_proj : V2 m ρ c main_call0_v24_0
    = k0_pay1 (m ((c.tc : Thread nD τ).loc main_arg0)) (sideBySide (m ((c.tc : Thread nD τ).loc main_arg4))) := by
  refine (W2_arr m ρ c 4).trans ((final_proj (V1 m ρ) c).trans (congr (congrArg k0_pay1 ?_) ?_))
  · exact W1_args m ρ c main_arg0 (by decide)
  · exact (read_weights (W0 m ρ c)).trans (congrArg sideBySide (W0_args m ρ c main_arg4 (by decide)))

/-- in the sources' parts, -/
theorem find_sources : V2 m ρ c main_call0_v24_1
    = k0_pay2 (m ((c.tc : Thread nD τ).loc main_arg0)) (sideBySide (m ((c.tc : Thread nD τ).loc main_arg4)))
        (spread (sourceHalf (m ((c.tc : Thread nD τ).loc main_arg5)))) := by
  refine (W2_arr m ρ c 5).trans ((final_sources (V1 m ρ) c).trans (congr (congr (congrArg k0_pay2 ?_) ?_) ?_))
  · exact W1_args m ρ c main_arg0 (by decide)
  · exact (read_weights (W0 m ρ c)).trans (congrArg sideBySide (W0_args m ρ c main_arg4 (by decide)))
  · exact (read_sources (W0 m ρ c)).trans (congrArg (fun a => spread (sourceHalf a)) (W0_args m ρ c main_arg5 (by decide)))

/-- and in the targets'. -/
theorem find_targets : V2 m ρ c main_call0_v24_2
    = k0_pay3 (m ((c.tc : Thread nD τ).loc main_arg0)) (sideBySide (m ((c.tc : Thread nD τ).loc main_arg4)))
        (spread (targetHalf (m ((c.tc : Thread nD τ).loc main_arg5)))) := by
  refine (W2_arr m ρ c 6).trans ((final_targets (V1 m ρ) c).trans (congr (congr (congrArg k0_pay3 ?_) ?_) ?_))
  · exact W1_args m ρ c main_arg0 (by decide)
  · exact (read_weights (W0 m ρ c)).trans (congrArg sideBySide (W0_args m ρ c main_arg4 (by decide)))
  · exact (read_targets (W0 m ρ c)).trans (congrArg (fun a => spread (targetHalf a)) (W0_args m ρ c main_arg5 (by decide)))

/-- The attention layer's array at row `i` and column `q` is the reference's head there. -/
theorem layer_apply (i : Fin 4096) (q : Fin 64) :
    (W3 m ρ c (Proc.devRef .tc main_v0) : Vec Ideal S4096x64 .f32) (ix2 i q)
      = refPart (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (headOf q) (ix2 i ⟨q.val % 8, by omega⟩) := by
  have e : W3 m ρ c (Proc.devRef .tc main_v0) = attention (V2 m ρ) c :=
    (W3_arr m ρ c 5).trans (final_attention (V2 m ρ) c)
  have h₂ : V2 m ρ c main_arg2 = m ((c.tc : Thread nD τ).loc main_arg2) := W2_args m ρ c main_arg2 (by decide)
  have h₃ : V2 m ρ c main_arg3 = m ((c.tc : Thread nD τ).loc main_arg3) := W2_args m ρ c main_arg3 (by decide)
  refine (congrFun e (ix2 i q)).trans (Eq.trans ?_ (refHead_apply _ _ _ _ i ⟨q.val % 8, by omega⟩).symm)
  refine congr (congr (congr (congr (congrArg headRow ?_) ?_) ?_) ?_) ?_
  · exact funext fun k => congrFun h₂ (ix2 i k)
  · exact funext fun k => congrFun h₃ (ix2 i k)
  · exact (congrFun (find_sources m ρ c) (ix2 i (headOf q))).trans (sources_eq _ _ _ i (headOf q))
  · exact funext fun k => (congrFun (find_targets m ρ c) (ix2 (headOf q) k)).trans (targets_eq _ _ _ k (headOf q))
  · exact funext fun k => (congrFun (find_proj m ρ c) (ix2 k q)).trans (proj_eq _ _ k q)

/-- On arguments that agree, the kernels' attention layer is the reference's concatenation. -/
theorem layer_eq (V : Valuation Cert.ReferenceIdeal.τ Cert.ReferenceIdeal.sig (Elt Ideal))
    (h₀ : V (Proc.devRef .tc Cert.ReferenceIdeal.main_arg0) = m ((c.tc : Thread nD τ).loc main_arg0))
    (h₂ : V (Proc.devRef .tc Cert.ReferenceIdeal.main_arg2) = m ((c.tc : Thread nD τ).loc main_arg2))
    (h₃ : V (Proc.devRef .tc Cert.ReferenceIdeal.main_arg3) = m ((c.tc : Thread nD τ).loc main_arg3))
    (h₄ : V (Proc.devRef .tc Cert.ReferenceIdeal.main_arg4) = m ((c.tc : Thread nD τ).loc main_arg4))
    (h₅ : V (Proc.devRef .tc Cert.ReferenceIdeal.main_arg5) = m ((c.tc : Thread nD τ).loc main_arg5)) :
    W3 m ρ c (Proc.devRef .tc main_v0) = Cert.ReferenceIdeal.Value.res_main_v248 V := by
  funext j
  obtain ⟨i, q, rfl⟩ : ∃ (i : Fin 4096) (q : Fin 64), j = ix2 i q := ⟨_, _, eq_ix2 j⟩
  refine (layer_apply m ρ c i q).trans (Eq.trans ?_ (concat_apply V i q).symm)
  rw [h₀, h₂, h₃, h₄, h₅]

end Cert.Gat
end
-- ==== Proof.Tail.lean ====
/- The two graph-convolution layers that follow the attention heads, as ONE function of the heads' array, the edge list
   and the four parameter arrays (`tail`), and the contents of the kernel program's result array as that function of
   what its second launched region leaves (`result_eq`). The host operations are the same as the reference's, one by
   one, so nothing is computed here: the operations are only read in order. -/
module

public import proofs.«01_k».proof.Proof.Gen.KernelIdeal.Frame
public import Idealize.ShloMosaic.PureOps.Ideal
public import Idealize.ShloMosaic.Lib.StableHlo.RunRead

@[expose] public section

set_option maxRecDepth 16384

noncomputable section

namespace Cert.Gat

open Cert.KernelIdeal Cert.KernelIdeal.Gen Idealize.ShloMosaic Idealize.ShloMosaic.TcCoe Idealize.SL.Sem
open Idealize.ShloMosaic.StableHlo

/-- Row `0` of the edge list: where each edge starts. -/
def edgeFrom (e : IVec S2x65536 32) : IVec S65536 32 :=
  shapeCast S65536 (extractStridedSlice S1x65536 ![0, 0] e slices_S2x65536_S1x65536_0_0) shapeCasts_S1x65536_S65536

/-- Row `1` of the edge list: where each edge ends. -/
def edgeTo (e : IVec S2x65536 32) : IVec S65536 32 :=
  shapeCast S65536 (extractStridedSlice S1x65536 ![1, 0] e slices_S2x65536_S1x65536_1_0) shapeCasts_S1x65536_S65536

/-- A row of the edge list followed by one self-loop per node. -/
def withLoops (a : IVec S65536 32) : IVec S69632 32 :=
  concatenate S69632 0 [⟨S65536, a⟩, ⟨S4096, iotaInDim S4096 32 0⟩] concatenates_S65536_S4096_S69632_d0

/-- Node numbers as an index column, a negative one counted from the end. -/
def column (s : IVec S69632 32) : IVec S69632x1 32 :=
  broadcastInDim S69632x1 ![0] bcast_S69632_S69632x1_0
    (select (cmpi .slt s (broadcastInDim S69632 ![] bcast_S_S69632 (constantI S_ 32 0#32)))
      (addi s (broadcastInDim S69632 ![] bcast_S_S69632 (constantI S_ 32 4096#32))) s)

/-- One over the square root of each node's number of incoming edges, at least one. -/
def invSqrtDegree (d : IVec S69632 32) : FVec Ideal S4096 .f32 :=
  Host.rsqrt (maximumf
    (Host.scatterAdd scatter_S4096_S69632x1_S69632_n_0_0_1
      (broadcastInDim S4096 ![] bcast_S_S4096 (constant S_ .f32 0x00000000#32)) (column d)
      (broadcastInDim S69632 ![] bcast_S_S69632 (constant S_ .f32 0x3F800000#32)))
    (broadcastInDim S4096 ![] bcast_S_S4096 (constant S_ .f32 0x3F800000#32)))

/-- The weight of each edge: the product of its two ends' `invSqrtDegree`. -/
def edgeWeight (s d : IVec S69632 32) : FVec Ideal S69632 .f32 :=
  mulf (Host.gather gather_S4096_S69632x1_S69632_n_0_n_n_0_1_1 (invSqrtDegree d) (column s))
    (Host.gather gather_S4096_S69632x1_S69632_n_0_n_n_0_1_1 (invSqrtDegree d) (column d))

/-- The first graph-convolution layer, from 64 features to 8. -/
def layer1 (h : FVec Ideal S4096x64 .f32) (s d : IVec S69632 32) (w : FVec Ideal S64x8 .f32) (b : FVec Ideal S8 .f32) :
    FVec Ideal S4096x8 .f32 :=
  addf
    (Host.scatterAdd scatter_S4096x8_S69632x1_S69632x8_1_0_0_1
      (broadcastInDim S4096x8 ![] bcast_S_S4096x8 (constant S_ .f32 0x00000000#32))
      (broadcastInDim S69632x1 ![0] bcast_S69632_S69632x1_0 d)
      (mulf
        (Host.gather gather_S4096x8_S69632x1_S69632x8_1_0_n_n_0_1_18
          (Host.dotGeneral dot_S4096x64_S64x8_S4096x8_1_0_0_1_n_n none h w) (column s))
        (broadcastInDim S69632x8 ![0, 1] bcast_S69632x1_S69632x8_0_1
          (broadcastInDim S69632x1 ![0] bcast_S69632_S69632x1_0 (edgeWeight s d)))))
    (broadcastInDim S4096x8 ![0, 1] bcast_S1x8_S4096x8_0_1 (broadcastInDim S1x8 ![1] bcast_S8_S1x8_1 b))

/-- The maximum with zero between the two layers. -/
def relu (x : FVec Ideal S4096x8 .f32) : FVec Ideal S4096x8 .f32 :=
  maximumf x (broadcastInDim S4096x8 ![] bcast_S_S4096x8 (constant S_ .f32 0x00000000#32))

/-- The second graph-convolution layer, from 8 features to 64. -/
def layer2 (h : FVec Ideal S4096x8 .f32) (s d : IVec S69632 32) (w : FVec Ideal S8x64 .f32) (b : FVec Ideal S64 .f32) :
    FVec Ideal S4096x64 .f32 :=
  addf
    (Host.scatterAdd scatter_S4096x64_S69632x1_S69632x64_1_0_0_1
      (broadcastInDim S4096x64 ![] bcast_S_S4096x64 (constant S_ .f32 0x00000000#32))
      (broadcastInDim S69632x1 ![0] bcast_S69632_S69632x1_0 d)
      (mulf
        (Host.gather gather_S4096x64_S69632x1_S69632x64_1_0_n_n_0_1_164
          (Host.dotGeneral dot_S4096x8_S8x64_S4096x64_1_0_0_1_n_n none h w) (column s))
        (broadcastInDim S69632x64 ![0, 1] bcast_S69632x1_S69632x64_0_1
          (broadcastInDim S69632x1 ![0] bcast_S69632_S69632x1_0 (edgeWeight s d)))))
    (broadcastInDim S4096x64 ![0, 1] bcast_S1x64_S4096x64_0_1 (broadcastInDim S1x64 ![1] bcast_S64_S1x64_1 b))

/-- What follows the heads: a layer, the maximum with zero, a layer, over the edges with self-loops. -/
def tail (h : FVec Ideal S4096x64 .f32) (e : IVec S2x65536 32) (w₁ : FVec Ideal S64x8 .f32) (b₁ : FVec Ideal S8 .f32)
    (w₂ : FVec Ideal S8x64 .f32) (b₂ : FVec Ideal S64 .f32) : FVec Ideal S4096x64 .f32 :=
  layer2 (relu (layer1 h (withLoops (edgeFrom e)) (withLoops (edgeTo e)) w₁ b₁))
    (withLoops (edgeFrom e)) (withLoops (edgeTo e)) w₂ b₂

/-- The first line of host operations after the regions leaves the first layer's result. -/
theorem read_layer1 (V : Valuation τ sig (Elt Ideal)) :
    after hostOps2 V (Proc.devRef .tc main_v51)
      = layer1 (V (Proc.devRef .tc main_v0)) (withLoops (edgeFrom (V (Proc.devRef .tc main_arg1))))
          (withLoops (edgeTo (V (Proc.devRef .tc main_arg1)))) (V (Proc.devRef .tc main_arg6)) (V (Proc.devRef .tc main_arg7)) := by
  after_reads_simp
  rfl

/-- It leaves the starts of the edges … -/
theorem read_from (V : Valuation τ sig (Elt Ideal)) :
    after hostOps2 V (Proc.devRef .tc main_v2) = edgeFrom (V (Proc.devRef .tc main_arg1)) := by
  after_reads_simp
  rfl

/-- … and their ends. -/
theorem read_to (V : Valuation τ sig (Elt Ideal)) :
    after hostOps2 V (Proc.devRef .tc main_v4) = edgeTo (V (Proc.devRef .tc main_arg1)) := by
  after_reads_simp
  rfl

/-- The second line takes the maximum with zero. -/
theorem read_relu (V : Valuation τ sig (Elt Ideal)) :
    after hostOps2_1 V (Proc.devRef .tc main_v52) = relu (V (Proc.devRef .tc main_v51)) := by
  after_reads_simp
  rfl

/-- The third line leaves the second layer's result. -/
theorem read_layer2 (V : Valuation τ sig (Elt Ideal)) :
    after hostOps2_2 V (Proc.devRef .tc main_v99)
      = layer2 (V (Proc.devRef .tc main_v52)) (withLoops (V (Proc.devRef .tc main_v2)))
          (withLoops (V (Proc.devRef .tc main_v4))) (V (Proc.devRef .tc main_arg8)) (V (Proc.devRef .tc main_arg9)) := by
  after_reads_simp
  rfl

variable (m : (ℓ : Loc nD τ sig) → Buf (Elt Ideal) ℓ) (ρ : Dev nD → PrngReg)

/-- The result array at the end of the run is `tail` of what the second region leaves in its output array and of the
    launch contents of the edge list and the layers' parameters. -/
theorem result_eq (c : Dev nD) :
    W6 m ρ c (Proc.devRef .tc main_v99)
      = tail (W3 m ρ c (Proc.devRef .tc main_v0)) (m ((c.tc : Thread nD τ).loc main_arg1))
          (m ((c.tc : Thread nD τ).loc main_arg6)) (m ((c.tc : Thread nD τ).loc main_arg7))
          (m ((c.tc : Thread nD τ).loc main_arg8)) (m ((c.tc : Thread nD τ).loc main_arg9)) := by
  refine (read_layer2 (W5 m ρ c)).trans ?_
  have h52 : W5 m ρ c (Proc.devRef .tc main_v52) = relu (W4 m ρ c (Proc.devRef .tc main_v51)) := read_relu (W4 m ρ c)
  have h51 := read_layer1 (W3 m ρ c)
  have h2 : W5 m ρ c (Proc.devRef .tc main_v2) = edgeFrom (W3 m ρ c (Proc.devRef .tc main_arg1)) :=
    (W5_of m ρ c main_v2 (by decide)).trans (read_from (W3 m ρ c))
  have h4 : W5 m ρ c (Proc.devRef .tc main_v4) = edgeTo (W3 m ρ c (Proc.devRef .tc main_arg1)) :=
    (W5_of m ρ c main_v4 (by decide)).trans (read_to (W3 m ρ c))
  rw [h52, h2, h4, W5_args m ρ c main_arg8 (by decide), W5_args m ρ c main_arg9 (by decide)]
  rw [W3_args m ρ c main_arg1 (by decide)]
  rw [W3_args m ρ c main_arg1 (by decide), W3_args m ρ c main_arg6 (by decide), W3_args m ρ c main_arg7 (by decide)] at h51
  exact congrArg (fun z => layer2 (relu z) _ _ _ _) h51

end Cert.Gat

end
-- ==== Proof.RefRun.lean ====
module
public import proofs.«01_k».proof.Proof.Tail
public import proofs.«01_k».proof.Proof.Gen.ReferenceIdeal.Run

/-! The reference's run: its result is the same two convolution layers on its own attention layer. -/

@[expose] public section
set_option maxRecDepth 16384
noncomputable section
namespace Cert.Gat
open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (ρ : Dev nD → PrngReg)

/-- Every run of the reference ends with its result at the two layers applied to its attention layer, and its arguments
unchanged. -/
theorem ref_run : θ_run (defs (F := Ideal)) (onTc (τ := τ) (main (F := Ideal))) ⟨m, fun _ => 0, ρ⟩ fun r => ∀ c : Dev nD,
      r.2.mem ((c.tc : Thread nD τ).loc main_v347)
        = tail (res_main_v248 (launchContents m c)) (m ((c.tc : Thread nD τ).loc main_arg1))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨(h c).1.trans rfl, (h c).2⟩) (Cert.ReferenceIdeal.Value.run (F := Ideal) m ρ)

end Cert.Gat
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Equation
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel program leaves its arguments unchanged and its semaphores at zero. -/
theorem quiescent_kernel : quiescent_Kernel (hKernel := Cert.Kernel.Gen.facts) :=
  fun m ρ _ => Cert.Kernel.Gen.frame m ρ

/-- So does the idealized kernel program. -/
theorem quiescent_kernelIdeal : quiescent_KernelIdeal (hKernelIdeal := Cert.KernelIdeal.Gen.facts) :=
  fun m ρ _ => Cert.KernelIdeal.Gen.frame m ρ

/-- So does the reference, which has no semaphore. -/
theorem quiescent_referenceIdeal : quiescent_ReferenceIdeal (hReferenceIdeal := Cert.ReferenceIdeal.Gen.facts) :=
  fun m ρ _ => (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

section
open Cert.KernelIdeal Cert.KernelIdeal.Gen

/-- The kernel program's run: its result at the last contents, its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = W6 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨h c _ (mem_uc main_v99 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (Gat.run_all m ρ)

end

/-- From memories that agree on the arguments both programs end with the same result. -/
theorem algebraic : algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Gen.W6 m ρ c (Proc.devRef .tc Cert.KernelIdeal.main_v99), kernel_run m ρ,
    (θ_run (Cert.ReferenceIdeal.defs (F := Ideal)) _ _).mono (fun r h c => ⟨(h c).1.trans ?_, (h c).2⟩) (Gat.ref_run m' ρ')⟩
  obtain ⟨h₀, h₁, h₂, h₃, h₄, h₅, h₆, h₇, h₈, h₉⟩ := hargs c
  have e := Gat.layer_eq m ρ c (StableHlo.launchContents m' c) h₀ h₂ h₃ h₄ h₅
  refine Eq.trans ?_ (Gat.result_eq m ρ c).symm
  rw [h₁, h₆, h₇, h₈, h₉, e]

/-- Every claim of the certificate. -/
theorem claim : Cert.Claim :=
  ⟨Cert.Kernel.Gen.facts, Cert.KernelIdeal.Gen.facts, Cert.ReferenceIdeal.Gen.facts, quiescent_kernel,
    quiescent_kernelIdeal, quiescent_referenceIdeal, trivial, algebraic⟩

end Cert.Proof

end
